-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S2x8192x32x128 : Shape := ⟨4, ![2, 8192, 32, 128]⟩
abbrev S2x8192x32x64 : Shape := ⟨4, ![2, 8192, 32, 64]⟩
abbrev S2x8192x8192 : Shape := ⟨3, ![2, 8192, 8192]⟩
abbrev S2x8192x64 : Shape := ⟨3, ![2, 8192, 64]⟩
abbrev S2x8192x32x256 : Shape := ⟨4, ![2, 8192, 32, 256]⟩
abbrev S_ : Shape := ⟨0, ![]⟩

class Facts : Prop where
  shapeCasts_S2x8192x8192_S2x8192x32x256 : S2x8192x8192.ShapeCasts S2x8192x32x256
  slices_S2x8192x32x256_S2x8192x32x128_0_0_0_0 : S2x8192x32x256.Slices ![0, 0, 0, 0] S2x8192x32x128
  bcast_S_S2x8192x32x128 : S_.BroadcastsInDim S2x8192x32x128 (![] : Fin 0 → Fin S2x8192x32x128.rank)
  bcast_S_S2x8192x32x64 : S_.BroadcastsInDim S2x8192x32x64 (![] : Fin 0 → Fin S2x8192x32x64.rank)
  bcast_S_S2x8192x64 : S_.BroadcastsInDim S2x8192x64 (![] : Fin 0 → Fin S2x8192x64.rank)

variable [Facts]

def fn {F : FTy → Type} [FloatOps F] (main_arg0 : FVec F S2x8192x32x128 .f32) (main_arg1 : FVec F S2x8192x32x64 .f32) (main_arg2 : FVec F S2x8192x8192 .f32) (main_arg3 : FVec F S2x8192x64 .f32) : IVec S2x8192x32x128 1 × IVec S2x8192x32x64 1 × IVec S2x8192x32x128 1 × IVec S2x8192x64 1 :=
  let main_v0 : FVec F S2x8192x32x256 .f32 := shapeCast S2x8192x32x256 main_arg2 shapeCasts_S2x8192x8192_S2x8192x32x256
  let main_v1 : FVec F S2x8192x32x128 .f32 := (extractStridedSlice S2x8192x32x128 ![0, 0, 0, 0] · slices_S2x8192x32x256_S2x8192x32x128_0_0_0_0) main_v0
  let main_v2 : FVec F S2x8192x32x128 .f32 := Host.absf main_arg0
  let main_cst : FVec F S_ .f32 := constant S_ .f32 0x7F800000#32
  let main_v3 : FVec F S2x8192x32x128 .f32 := broadcastInDim S2x8192x32x128 ![] bcast_S_S2x8192x32x128 main_cst
  let main_v4 : IVec S2x8192x32x128 1 := cmpf .olt main_v2 main_v3
  let main_v5 : FVec F S2x8192x32x64 .f32 := Host.absf main_arg1
  let main_cst_0 : FVec F S_ .f32 := constant S_ .f32 0x7F800000#32
  let main_v6 : FVec F S2x8192x32x64 .f32 := broadcastInDim S2x8192x32x64 ![] bcast_S_S2x8192x32x64 main_cst_0
  let main_v7 : IVec S2x8192x32x64 1 := cmpf .olt main_v5 main_v6
  let main_v8 : FVec F S2x8192x32x128 .f32 := Host.absf main_v1
  let main_cst_1 : FVec F S_ .f32 := constant S_ .f32 0x7F800000#32
  let main_v9 : FVec F S2x8192x32x128 .f32 := broadcastInDim S2x8192x32x128 ![] bcast_S_S2x8192x32x128 main_cst_1
  let main_v10 : IVec S2x8192x32x128 1 := cmpf .olt main_v8 main_v9
  let main_v11 : FVec F S2x8192x64 .f32 := Host.absf main_arg3
  let main_cst_2 : FVec F S_ .f32 := constant S_ .f32 0x7F800000#32
  let main_v12 : FVec F S2x8192x64 .f32 := broadcastInDim S2x8192x64 ![] bcast_S_S2x8192x64 main_cst_2
  let main_v13 : IVec S2x8192x64 1 := cmpf .olt main_v11 main_v12
  (main_v4, main_v7, main_v10, main_v13)
-- ==== Kernel.lean ====
abbrev S2x8192x32x128 : Shape := ⟨4, ![2, 8192, 32, 128]⟩
abbrev S2x8192x32x64 : Shape := ⟨4, ![2, 8192, 32, 64]⟩
abbrev S2x8192x8192 : Shape := ⟨3, ![2, 8192, 8192]⟩
abbrev S2x8192x64 : Shape := ⟨3, ![2, 8192, 64]⟩
abbrev S_ : Shape := ⟨0, ![]⟩
abbrev S2x8192x32x256 : Shape := ⟨4, ![2, 8192, 32, 256]⟩
abbrev S16384x8192 : Shape := ⟨2, ![16384, 8192]⟩
abbrev S2x8192x128 : Shape := ⟨3, ![2, 8192, 128]⟩
abbrev S16384x128 : Shape := ⟨2, ![16384, 128]⟩
abbrev S16384x4096 : Shape := ⟨2, ![16384, 4096]⟩
abbrev S2048x256 : Shape := ⟨2, ![2048, 256]⟩
abbrev S8192x128 : Shape := ⟨2, ![8192, 128]⟩
abbrev S2048x128 : Shape := ⟨2, ![2048, 128]⟩
abbrev S1024x2048 : Shape := ⟨2, ![1024, 2048]⟩
abbrev S1x2048 : Shape := ⟨2, ![1, 2048]⟩
abbrev S128x2048 : Shape := ⟨2, ![128, 2048]⟩
abbrev S256x2048 : Shape := ⟨2, ![256, 2048]⟩
abbrev S1024x128 : Shape := ⟨2, ![1024, 128]⟩
abbrev S1024x256 : Shape := ⟨2, ![1024, 256]⟩
abbrev S2048 : Shape := ⟨1, ![2048]⟩
abbrev S256x1024 : Shape := ⟨2, ![256, 1024]⟩
abbrev S1024x1024 : Shape := ⟨2, ![1024, 1024]⟩
abbrev S1x1024 : Shape := ⟨2, ![1, 1024]⟩
abbrev S1024 : Shape := ⟨1, ![1024]⟩
abbrev S128x1024 : Shape := ⟨2, ![128, 1024]⟩

abbrev nBuf : Space → Nat
  | .hbm => 26
  | .vmem => 16
  | .smem => 0
  | _ => 0

abbrev bufTy : (tb : Table) → Fin (tcTables nBuf tb) → BufTy
  | .hbm, ⟨0, _⟩ => ⟨S2x8192x32x128, .f32⟩
  | .hbm, ⟨1, _⟩ => ⟨S2x8192x32x64, .f32⟩
  | .hbm, ⟨2, _⟩ => ⟨S2x8192x8192, .f32⟩
  | .hbm, ⟨3, _⟩ => ⟨S2x8192x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x8192x32x64, .f32⟩
  | .hbm, ⟨13, _⟩ => ⟨S2x8192x32x256, .f32⟩
  | .hbm, ⟨14, _⟩ => ⟨S2x8192x32x256, .f32⟩
  | .hbm, ⟨15, _⟩ => ⟨S2x8192x32x256, .f32⟩
  | .hbm, ⟨16, _⟩ => ⟨S16384x8192, .f32⟩
  | .hbm, ⟨17, _⟩ => ⟨S16384x8192, .bf16⟩
  | .hbm, ⟨18, _⟩ => ⟨S_, .f32⟩
  | .hbm, ⟨19, _⟩ => ⟨S2x8192x64, .f32⟩
  | .hbm, ⟨20, _⟩ => ⟨S2x8192x128, .f32⟩
  | .hbm, ⟨21, _⟩ => ⟨S16384x128, .f32⟩
  | .hbm, ⟨22, _⟩ => ⟨S16384x128, .bf16⟩
  | .hbm, ⟨23, _⟩ => ⟨S16384x8192, .f32⟩
  | .hbm, ⟨24, _⟩ => ⟨S16384x8192, .bf16⟩
  | .hbm, ⟨25, _⟩ => ⟨S16384x4096, .bf16⟩
  | .local _ .vmem, ⟨0, _⟩ => ⟨S2048x256, .bf16⟩
  | .local _ .vmem, ⟨1, _⟩ => ⟨S2048x256, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S2048x128, .bf16⟩
  | .local _ .vmem, ⟨9, _⟩ => ⟨S2048x128, .bf16⟩
  | .local _ .vmem, ⟨10, _⟩ => ⟨S1024x2048, .f32⟩
  | .local _ .vmem, ⟨11, _⟩ => ⟨S1024x2048, .f32⟩
  | .local _ .vmem, ⟨12, _⟩ => ⟨S1x2048, .f32⟩
  | .local _ .vmem, ⟨13, _⟩ => ⟨S1x2048, .f32⟩
  | .local _ .vmem, ⟨14, _⟩ => ⟨S128x2048, .f32⟩
  | .local _ .vmem, ⟨15, _⟩ => ⟨S256x2048, .bf16⟩
  | _, _ => ⟨S2x8192x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 32, 4], ![false, false, false]⟩

def k0_mult1 : BitVec 32 :=
  let c0_i32 : BitVec 32 := 0#32
  c0_i32
@[reducible] def k0_t1_loop (i : grid0.Coords) : Scf.Loop 32 :=
  let c0_i32_24 : BitVec 32 := 0#32
  let c2_i32 : BitVec 32 := 2#32
  let arg2 : BitVec 32 := BitVec.ofNat 32 (i 2).val
  let v31 : BitVec 32 := Scalar.muli c2_i32 arg2
  let c0_i32_19 : BitVec 32 := 0#32
  let v33 : BitVec 1 := Scalar.cmpi .sgt v31 c0_i32_19
  let v34 : BitVec 32 := Scalar.extui v33
  let c0_i32_20 : BitVec 32 := 0#32
  let v35 : BitVec 1 := Scalar.cmpi .slt v31 c0_i32_20
  let v36 : BitVec 32 := Scalar.extui v35
  let v37 : BitVec 32 := Scalar.subi v34 v36
  let c2_i32_18 : BitVec 32 := 2#32
  let c0_i32_21 : BitVec 32 := 0#32
  let v38 : BitVec 1 := Scalar.cmpi .sgt c2_i32_18 c0_i32_21
  let v39 : BitVec 32 := Scalar.extui v38
  let c0_i32_22 : BitVec 32 := 0#32
  let v40 : BitVec 1 := Scalar.cmpi .slt c2_i32_18 c0_i32_22
  let v41 : BitVec 32 := Scalar.extui v40
  let v42 : BitVec 32 := Scalar.subi v39 v41
  let v43 : BitVec 1 := Scalar.cmpi .ne v37 v42
  let v44 : BitVec 32 := Scalar.remsi v31 c2_i32_18
  let c0_i32_23 : BitVec 32 := 0#32
  let v45 : BitVec 1 := Scalar.cmpi .ne v44 c0_i32_23
  let v46 : BitVec 1 := Scalar.andi v43 v45
  let v32 : BitVec 32 := Scalar.divsi v31 c2_i32_18
  let c1_i32 : BitVec 32 := 1#32
  let v47 : BitVec 32 := Scalar.subi v32 c1_i32
  let v48 : BitVec 32 := Scalar.select v46 v47 v32
  let v49 : BitVec 32 := Scalar.subi v48 c0_i32_24
  let c1_i32_26 : BitVec 32 := 1#32
  let v51 : BitVec 32 := Scalar.divsi v49 c1_i32_26
  let v52 : BitVec 32 := Scalar.muli v51 c1_i32_26
  let v53 : BitVec 32 := Scalar.addi c0_i32_24 v52
  let c1_i32_27 : BitVec 32 := 1#32
  ⟨c0_i32_24, v53, c1_i32_27⟩
def k0_mult2 (i : grid0.Coords) (k0_t1 : Fin (k0_t1_loop i).trips) : BitVec 32 :=
  let c2_i32_112 : BitVec 32 := 2#32
  let c0_i32_24 : BitVec 32 := 0#32
  let c1_i32_27 : BitVec 32 := 1#32
  let arg14 : BitVec 32 := Scf.iv c0_i32_24 c1_i32_27 k0_t1
  let v257 : BitVec 32 := Scalar.muli c2_i32_112 arg14
  let c1_i32_113 : BitVec 32 := 1#32
  let v258 : BitVec 32 := Scalar.addi v257 c1_i32_113
  let c0_i32_114 : BitVec 32 := 0#32
  let v259 : BitVec 32 := Scalar.addi v258 c0_i32_114
  let c1024_i32_115 : BitVec 32 := 1024#32
  let v260 : BitVec 32 := Scalar.muli v259 c1024_i32_115
  v260
def k0_off1 (i : grid0.Coords) (k0_t1 : Fin (k0_t1_loop i).trips) (c0_i32_114 : BitVec 32) : Fin 2 → Nat :=
  let c2_i32_112 : BitVec 32 := 2#32
  let c0_i32_24 : BitVec 32 := 0#32
  let c1_i32_27 : BitVec 32 := 1#32
  let arg14 : BitVec 32 := Scf.iv c0_i32_24 c1_i32_27 k0_t1
  let v257 : BitVec 32 := Scalar.muli c2_i32_112 arg14
  let c1_i32_113 : BitVec 32 := 1#32
  let v258 : BitVec 32 := Scalar.addi v257 c1_i32_113
  let v259 : BitVec 32 := Scalar.addi v258 c0_i32_114
  let c1024_i32_115 : BitVec 32 := 1024#32
  let v260 : BitVec 32 := Scalar.muli v259 c1024_i32_115
  let v261 : BitVec 32 := v260
  let v262 : Index := Scalar.indexCast v261
  let c0_116 : Index := 0#32
  ![v262.toNat, 0]
def k0_mult3 (i : grid0.Coords) (k0_t1 : Fin (k0_t1_loop i).trips) : BitVec 32 :=
  let c2_i32_123 : BitVec 32 := 2#32
  let c0_i32_24 : BitVec 32 := 0#32
  let c1_i32_27 : BitVec 32 := 1#32
  let arg14 : BitVec 32 := Scf.iv c0_i32_24 c1_i32_27 k0_t1
  let v274 : BitVec 32 := Scalar.muli c2_i32_123 arg14
  let c0_i32_124 : BitVec 32 := 0#32
  let v275 : BitVec 32 := Scalar.addi v274 c0_i32_124
  let c1024_i32_125 : BitVec 32 := 1024#32
  let v276 : BitVec 32 := Scalar.muli v275 c1024_i32_125
  v276
def k0_off2 (i : grid0.Coords) (k0_t1 : Fin (k0_t1_loop i).trips) (c0_i32_124 : BitVec 32) : Fin 2 → Nat :=
  let c2_i32_123 : BitVec 32 := 2#32
  let c0_i32_24 : BitVec 32 := 0#32
  let c1_i32_27 : BitVec 32 := 1#32
  let arg14 : BitVec 32 := Scf.iv c0_i32_24 c1_i32_27 k0_t1
  let v274 : BitVec 32 := Scalar.muli c2_i32_123 arg14
  let v275 : BitVec 32 := Scalar.addi v274 c0_i32_124
  let c1024_i32_125 : BitVec 32 := 1024#32
  let v276 : BitVec 32 := Scalar.muli v275 c1024_i32_125
  let v277 : BitVec 32 := v276
  let v278 : Index := Scalar.indexCast v277
  let c0_126 : Index := 0#32
  ![v278.toNat, 0]
def k0_mult4 (i : grid0.Coords) (k0_t1 : Fin (k0_t1_loop i).trips) : BitVec 32 :=
  let c2_i32_144 : BitVec 32 := 2#32
  let c0_i32_24 : BitVec 32 := 0#32
  let c1_i32_27 : BitVec 32 := 1#32
  let arg14 : BitVec 32 := Scf.iv c0_i32_24 c1_i32_27 k0_t1
  let v311 : BitVec 32 := Scalar.muli c2_i32_144 arg14
  let c1_i32_145 : BitVec 32 := 1#32
  let v312 : BitVec 32 := Scalar.addi v311 c1_i32_145
  let c1_i32_146 : BitVec 32 := 1#32
  let v313 : BitVec 32 := Scalar.addi v312 c1_i32_146
  let c1024_i32_147 : BitVec 32 := 1024#32
  let v314 : BitVec 32 := Scalar.muli v313 c1024_i32_147
  v314
def k0_mult5 (i : grid0.Coords) (k0_t1 : Fin (k0_t1_loop i).trips) : BitVec 32 :=
  let c2_i32_155 : BitVec 32 := 2#32
  let c0_i32_24 : BitVec 32 := 0#32
  let c1_i32_27 : BitVec 32 := 1#32
  let arg14 : BitVec 32 := Scf.iv c0_i32_24 c1_i32_27 k0_t1
  let v328 : BitVec 32 := Scalar.muli c2_i32_155 arg14
  let c1_i32_156 : BitVec 32 := 1#32
  let v329 : BitVec 32 := Scalar.addi v328 c1_i32_156
  let c1024_i32_157 : BitVec 32 := 1024#32
  let v330 : BitVec 32 := Scalar.muli v329 c1024_i32_157
  v330
@[reducible] def k0_t2_loop (i : grid0.Coords) : Scf.Loop 32 :=
  let c0_i32_24 : BitVec 32 := 0#32
  let c2_i32 : BitVec 32 := 2#32
  let arg2 : BitVec 32 := BitVec.ofNat 32 (i 2).val
  let v31 : BitVec 32 := Scalar.muli c2_i32 arg2
  let c0_i32_19 : BitVec 32 := 0#32
  let v33 : BitVec 1 := Scalar.cmpi .sgt v31 c0_i32_19
  let v34 : BitVec 32 := Scalar.extui v33
  let c0_i32_20 : BitVec 32 := 0#32
  let v35 : BitVec 1 := Scalar.cmpi .slt v31 c0_i32_20
  let v36 : BitVec 32 := Scalar.extui v35
  let v37 : BitVec 32 := Scalar.subi v34 v36
  let c2_i32_18 : BitVec 32 := 2#32
  let c0_i32_21 : BitVec 32 := 0#32
  let v38 : BitVec 1 := Scalar.cmpi .sgt c2_i32_18 c0_i32_21
  let v39 : BitVec 32 := Scalar.extui v38
  let c0_i32_22 : BitVec 32 := 0#32
  let v40 : BitVec 1 := Scalar.cmpi .slt c2_i32_18 c0_i32_22
  let v41 : BitVec 32 := Scalar.extui v40
  let v42 : BitVec 32 := Scalar.subi v39 v41
  let v43 : BitVec 1 := Scalar.cmpi .ne v37 v42
  let v44 : BitVec 32 := Scalar.remsi v31 c2_i32_18
  let c0_i32_23 : BitVec 32 := 0#32
  let v45 : BitVec 1 := Scalar.cmpi .ne v44 c0_i32_23
  let v46 : BitVec 1 := Scalar.andi v43 v45
  let v32 : BitVec 32 := Scalar.divsi v31 c2_i32_18
  let c1_i32 : BitVec 32 := 1#32
  let v47 : BitVec 32 := Scalar.subi v32 c1_i32
  let v48 : BitVec 32 := Scalar.select v46 v47 v32
  let v49 : BitVec 32 := Scalar.subi v48 c0_i32_24
  let c1_i32_26 : BitVec 32 := 1#32
  let v51 : BitVec 32 := Scalar.divsi v49 c1_i32_26
  let v52 : BitVec 32 := Scalar.muli v51 c1_i32_26
  let v53 : BitVec 32 := Scalar.addi c0_i32_24 v52
  let v50 : BitVec 32 := Scalar.addi c0_i32_24 v49
  let c1_i32_28 : BitVec 32 := 1#32
  ⟨v53, v50, c1_i32_28⟩
def k0_mult6 (i : grid0.Coords) (k0_t2 : Fin (k0_t2_loop i).trips) : BitVec 32 :=
  let c2_i32_112 : BitVec 32 := 2#32
  let c0_i32_24 : BitVec 32 := 0#32
  let c2_i32 : BitVec 32 := 2#32
  let arg2 : BitVec 32 := BitVec.ofNat 32 (i 2).val
  let v31 : BitVec 32 := Scalar.muli c2_i32 arg2
  let c0_i32_19 : BitVec 32 := 0#32
  let v33 : BitVec 1 := Scalar.cmpi .sgt v31 c0_i32_19
  let v34 : BitVec 32 := Scalar.extui v33
  let c0_i32_20 : BitVec 32 := 0#32
  let v35 : BitVec 1 := Scalar.cmpi .slt v31 c0_i32_20
  let v36 : BitVec 32 := Scalar.extui v35
  let v37 : BitVec 32 := Scalar.subi v34 v36
  let c2_i32_18 : BitVec 32 := 2#32
  let c0_i32_21 : BitVec 32 := 0#32
  let v38 : BitVec 1 := Scalar.cmpi .sgt c2_i32_18 c0_i32_21
  let v39 : BitVec 32 := Scalar.extui v38
  let c0_i32_22 : BitVec 32 := 0#32
  let v40 : BitVec 1 := Scalar.cmpi .slt c2_i32_18 c0_i32_22
  let v41 : BitVec 32 := Scalar.extui v40
  let v42 : BitVec 32 := Scalar.subi v39 v41
  let v43 : BitVec 1 := Scalar.cmpi .ne v37 v42
  let v44 : BitVec 32 := Scalar.remsi v31 c2_i32_18
  let c0_i32_23 : BitVec 32 := 0#32
  let v45 : BitVec 1 := Scalar.cmpi .ne v44 c0_i32_23
  let v46 : BitVec 1 := Scalar.andi v43 v45
  let v32 : BitVec 32 := Scalar.divsi v31 c2_i32_18
  let c1_i32 : BitVec 32 := 1#32
  let v47 : BitVec 32 := Scalar.subi v32 c1_i32
  let v48 : BitVec 32 := Scalar.select v46 v47 v32
  let v49 : BitVec 32 := Scalar.subi v48 c0_i32_24
  let c1_i32_26 : BitVec 32 := 1#32
  let v51 : BitVec 32 := Scalar.divsi v49 c1_i32_26
  let v52 : BitVec 32 := Scalar.muli v51 c1_i32_26
  let v53 : BitVec 32 := Scalar.addi c0_i32_24 v52
  let c1_i32_28 : BitVec 32 := 1#32
  let arg14 : BitVec 32 := Scf.iv v53 c1_i32_28 k0_t2
  let v257 : BitVec 32 := Scalar.muli c2_i32_112 arg14
  let c1_i32_113 : BitVec 32 := 1#32
  let v258 : BitVec 32 := Scalar.addi v257 c1_i32_113
  let c0_i32_114 : BitVec 32 := 0#32
  let v259 : BitVec 32 := Scalar.addi v258 c0_i32_114
  let c1024_i32_115 : BitVec 32 := 1024#32
  let v260 : BitVec 32 := Scalar.muli v259 c1024_i32_115
  v260
def k0_off3 (i : grid0.Coords) (k0_t2 : Fin (k0_t2_loop i).trips) (c0_i32_114 : BitVec 32) : Fin 2 → Nat :=
  let c2_i32_112 : BitVec 32 := 2#32
  let c0_i32_24 : BitVec 32 := 0#32
  let c2_i32 : BitVec 32 := 2#32
  let arg2 : BitVec 32 := BitVec.ofNat 32 (i 2).val
  let v31 : BitVec 32 := Scalar.muli c2_i32 arg2
  let c0_i32_19 : BitVec 32 := 0#32
  let v33 : BitVec 1 := Scalar.cmpi .sgt v31 c0_i32_19
  let v34 : BitVec 32 := Scalar.extui v33
  let c0_i32_20 : BitVec 32 := 0#32
  let v35 : BitVec 1 := Scalar.cmpi .slt v31 c0_i32_20
  let v36 : BitVec 32 := Scalar.extui v35
  let v37 : BitVec 32 := Scalar.subi v34 v36
  let c2_i32_18 : BitVec 32 := 2#32
  let c0_i32_21 : BitVec 32 := 0#32
  let v38 : BitVec 1 := Scalar.cmpi .sgt c2_i32_18 c0_i32_21
  let v39 : BitVec 32 := Scalar.extui v38
  let c0_i32_22 : BitVec 32 := 0#32
  let v40 : BitVec 1 := Scalar.cmpi .slt c2_i32_18 c0_i32_22
  let v41 : BitVec 32 := Scalar.extui v40
  let v42 : BitVec 32 := Scalar.subi v39 v41
  let v43 : BitVec 1 := Scalar.cmpi .ne v37 v42
  let v44 : BitVec 32 := Scalar.remsi v31 c2_i32_18
  let c0_i32_23 : BitVec 32 := 0#32
  let v45 : BitVec 1 := Scalar.cmpi .ne v44 c0_i32_23
  let v46 : BitVec 1 := Scalar.andi v43 v45
  let v32 : BitVec 32 := Scalar.divsi v31 c2_i32_18
  let c1_i32 : BitVec 32 := 1#32
  let v47 : BitVec 32 := Scalar.subi v32 c1_i32
  let v48 : BitVec 32 := Scalar.select v46 v47 v32
  let v49 : BitVec 32 := Scalar.subi v48 c0_i32_24
  let c1_i32_26 : BitVec 32 := 1#32
  let v51 : BitVec 32 := Scalar.divsi v49 c1_i32_26
  let v52 : BitVec 32 := Scalar.muli v51 c1_i32_26
  let v53 : BitVec 32 := Scalar.addi c0_i32_24 v52
  let c1_i32_28 : BitVec 32 := 1#32
  let arg14 : BitVec 32 := Scf.iv v53 c1_i32_28 k0_t2
  let v257 : BitVec 32 := Scalar.muli c2_i32_112 arg14
  let c1_i32_113 : BitVec 32 := 1#32
  let v258 : BitVec 32 := Scalar.addi v257 c1_i32_113
  let v259 : BitVec 32 := Scalar.addi v258 c0_i32_114
  let c1024_i32_115 : BitVec 32 := 1024#32
  let v260 : BitVec 32 := Scalar.muli v259 c1024_i32_115
  let v261 : BitVec 32 := v260
  let v262 : Index := Scalar.indexCast v261
  let c0_116 : Index := 0#32
  ![v262.toNat, 0]
def k0_mult7 (i : grid0.Coords) (k0_t2 : Fin (k0_t2_loop i).trips) : BitVec 32 :=
  let c2_i32_123 : BitVec 32 := 2#32
  let c0_i32_24 : BitVec 32 := 0#32
  let c2_i32 : BitVec 32 := 2#32
  let arg2 : BitVec 32 := BitVec.ofNat 32 (i 2).val
  let v31 : BitVec 32 := Scalar.muli c2_i32 arg2
  let c0_i32_19 : BitVec 32 := 0#32
  let v33 : BitVec 1 := Scalar.cmpi .sgt v31 c0_i32_19
  let v34 : BitVec 32 := Scalar.extui v33
  let c0_i32_20 : BitVec 32 := 0#32
  let v35 : BitVec 1 := Scalar.cmpi .slt v31 c0_i32_20
  let v36 : BitVec 32 := Scalar.extui v35
  let v37 : BitVec 32 := Scalar.subi v34 v36
  let c2_i32_18 : BitVec 32 := 2#32
  let c0_i32_21 : BitVec 32 := 0#32
  let v38 : BitVec 1 := Scalar.cmpi .sgt c2_i32_18 c0_i32_21
  let v39 : BitVec 32 := Scalar.extui v38
  let c0_i32_22 : BitVec 32 := 0#32
  let v40 : BitVec 1 := Scalar.cmpi .slt c2_i32_18 c0_i32_22
  let v41 : BitVec 32 := Scalar.extui v40
  let v42 : BitVec 32 := Scalar.subi v39 v41
  let v43 : BitVec 1 := Scalar.cmpi .ne v37 v42
  let v44 : BitVec 32 := Scalar.remsi v31 c2_i32_18
  let c0_i32_23 : BitVec 32 := 0#32
  let v45 : BitVec 1 := Scalar.cmpi .ne v44 c0_i32_23
  let v46 : BitVec 1 := Scalar.andi v43 v45
  let v32 : BitVec 32 := Scalar.divsi v31 c2_i32_18
  let c1_i32 : BitVec 32 := 1#32
  let v47 : BitVec 32 := Scalar.subi v32 c1_i32
  let v48 : BitVec 32 := Scalar.select v46 v47 v32
  let v49 : BitVec 32 := Scalar.subi v48 c0_i32_24
  let c1_i32_26 : BitVec 32 := 1#32
  let v51 : BitVec 32 := Scalar.divsi v49 c1_i32_26
  let v52 : BitVec 32 := Scalar.muli v51 c1_i32_26
  let v53 : BitVec 32 := Scalar.addi c0_i32_24 v52
  let c1_i32_28 : BitVec 32 := 1#32
  let arg14 : BitVec 32 := Scf.iv v53 c1_i32_28 k0_t2
  let v274 : BitVec 32 := Scalar.muli c2_i32_123 arg14
  let c0_i32_124 : BitVec 32 := 0#32
  let v275 : BitVec 32 := Scalar.addi v274 c0_i32_124
  let c1024_i32_125 : BitVec 32 := 1024#32
  let v276 : BitVec 32 := Scalar.muli v275 c1024_i32_125
  v276
def k0_off4 (i : grid0.Coords) (k0_t2 : Fin (k0_t2_loop i).trips) (c0_i32_124 : BitVec 32) : Fin 2 → Nat :=
  let c2_i32_123 : BitVec 32 := 2#32
  let c0_i32_24 : BitVec 32 := 0#32
  let c2_i32 : BitVec 32 := 2#32
  let arg2 : BitVec 32 := BitVec.ofNat 32 (i 2).val
  let v31 : BitVec 32 := Scalar.muli c2_i32 arg2
  let c0_i32_19 : BitVec 32 := 0#32
  let v33 : BitVec 1 := Scalar.cmpi .sgt v31 c0_i32_19
  let v34 : BitVec 32 := Scalar.extui v33
  let c0_i32_20 : BitVec 32 := 0#32
  let v35 : BitVec 1 := Scalar.cmpi .slt v31 c0_i32_20
  let v36 : BitVec 32 := Scalar.extui v35
  let v37 : BitVec 32 := Scalar.subi v34 v36
  let c2_i32_18 : BitVec 32 := 2#32
  let c0_i32_21 : BitVec 32 := 0#32
  let v38 : BitVec 1 := Scalar.cmpi .sgt c2_i32_18 c0_i32_21
  let v39 : BitVec 32 := Scalar.extui v38
  let c0_i32_22 : BitVec 32 := 0#32
  let v40 : BitVec 1 := Scalar.cmpi .slt c2_i32_18 c0_i32_22
  let v41 : BitVec 32 := Scalar.extui v40
  let v42 : BitVec 32 := Scalar.subi v39 v41
  let v43 : BitVec 1 := Scalar.cmpi .ne v37 v42
  let v44 : BitVec 32 := Scalar.remsi v31 c2_i32_18
  let c0_i32_23 : BitVec 32 := 0#32
  let v45 : BitVec 1 := Scalar.cmpi .ne v44 c0_i32_23
  let v46 : BitVec 1 := Scalar.andi v43 v45
  let v32 : BitVec 32 := Scalar.divsi v31 c2_i32_18
  let c1_i32 : BitVec 32 := 1#32
  let v47 : BitVec 32 := Scalar.subi v32 c1_i32
  let v48 : BitVec 32 := Scalar.select v46 v47 v32
  let v49 : BitVec 32 := Scalar.subi v48 c0_i32_24
  let c1_i32_26 : BitVec 32 := 1#32
  let v51 : BitVec 32 := Scalar.divsi v49 c1_i32_26
  let v52 : BitVec 32 := Scalar.muli v51 c1_i32_26
  let v53 : BitVec 32 := Scalar.addi c0_i32_24 v52
  let c1_i32_28 : BitVec 32 := 1#32
  let arg14 : BitVec 32 := Scf.iv v53 c1_i32_28 k0_t2
  let v274 : BitVec 32 := Scalar.muli c2_i32_123 arg14
  let v275 : BitVec 32 := Scalar.addi v274 c0_i32_124
  let c1024_i32_125 : BitVec 32 := 1024#32
  let v276 : BitVec 32 := Scalar.muli v275 c1024_i32_125
  let v277 : BitVec 32 := v276
  let v278 : Index := Scalar.indexCast v277
  let c0_126 : Index := 0#32
  ![v278.toNat, 0]
def k0_mult8 (i : grid0.Coords) (k0_t2 : Fin (k0_t2_loop i).trips) : BitVec 32 :=
  let c2_i32_144 : BitVec 32 := 2#32
  let c0_i32_24 : BitVec 32 := 0#32
  let c2_i32 : BitVec 32 := 2#32
  let arg2 : BitVec 32 := BitVec.ofNat 32 (i 2).val
  let v31 : BitVec 32 := Scalar.muli c2_i32 arg2
  let c0_i32_19 : BitVec 32 := 0#32
  let v33 : BitVec 1 := Scalar.cmpi .sgt v31 c0_i32_19
  let v34 : BitVec 32 := Scalar.extui v33
  let c0_i32_20 : BitVec 32 := 0#32
  let v35 : BitVec 1 := Scalar.cmpi .slt v31 c0_i32_20
  let v36 : BitVec 32 := Scalar.extui v35
  let v37 : BitVec 32 := Scalar.subi v34 v36
  let c2_i32_18 : BitVec 32 := 2#32
  let c0_i32_21 : BitVec 32 := 0#32
  let v38 : BitVec 1 := Scalar.cmpi .sgt c2_i32_18 c0_i32_21
  let v39 : BitVec 32 := Scalar.extui v38
  let c0_i32_22 : BitVec 32 := 0#32
  let v40 : BitVec 1 := Scalar.cmpi .slt c2_i32_18 c0_i32_22
  let v41 : BitVec 32 := Scalar.extui v40
  let v42 : BitVec 32 := Scalar.subi v39 v41
  let v43 : BitVec 1 := Scalar.cmpi .ne v37 v42
  let v44 : BitVec 32 := Scalar.remsi v31 c2_i32_18
  let c0_i32_23 : BitVec 32 := 0#32
  let v45 : BitVec 1 := Scalar.cmpi .ne v44 c0_i32_23
  let v46 : BitVec 1 := Scalar.andi v43 v45
  let v32 : BitVec 32 := Scalar.divsi v31 c2_i32_18
  let c1_i32 : BitVec 32 := 1#32
  let v47 : BitVec 32 := Scalar.subi v32 c1_i32
  let v48 : BitVec 32 := Scalar.select v46 v47 v32
  let v49 : BitVec 32 := Scalar.subi v48 c0_i32_24
  let c1_i32_26 : BitVec 32 := 1#32
  let v51 : BitVec 32 := Scalar.divsi v49 c1_i32_26
  let v52 : BitVec 32 := Scalar.muli v51 c1_i32_26
  let v53 : BitVec 32 := Scalar.addi c0_i32_24 v52
  let c1_i32_28 : BitVec 32 := 1#32
  let arg14 : BitVec 32 := Scf.iv v53 c1_i32_28 k0_t2
  let v311 : BitVec 32 := Scalar.muli c2_i32_144 arg14
  let c1_i32_145 : BitVec 32 := 1#32
  let v312 : BitVec 32 := Scalar.addi v311 c1_i32_145
  let c1_i32_146 : BitVec 32 := 1#32
  let v313 : BitVec 32 := Scalar.addi v312 c1_i32_146
  let c1024_i32_147 : BitVec 32 := 1024#32
  let v314 : BitVec 32 := Scalar.muli v313 c1024_i32_147
  v314
def k0_mult9 (i : grid0.Coords) (k0_t2 : Fin (k0_t2_loop i).trips) : BitVec 32 :=
  let c2_i32_155 : BitVec 32 := 2#32
  let c0_i32_24 : BitVec 32 := 0#32
  let c2_i32 : BitVec 32 := 2#32
  let arg2 : BitVec 32 := BitVec.ofNat 32 (i 2).val
  let v31 : BitVec 32 := Scalar.muli c2_i32 arg2
  let c0_i32_19 : BitVec 32 := 0#32
  let v33 : BitVec 1 := Scalar.cmpi .sgt v31 c0_i32_19
  let v34 : BitVec 32 := Scalar.extui v33
  let c0_i32_20 : BitVec 32 := 0#32
  let v35 : BitVec 1 := Scalar.cmpi .slt v31 c0_i32_20
  let v36 : BitVec 32 := Scalar.extui v35
  let v37 : BitVec 32 := Scalar.subi v34 v36
  let c2_i32_18 : BitVec 32 := 2#32
  let c0_i32_21 : BitVec 32 := 0#32
  let v38 : BitVec 1 := Scalar.cmpi .sgt c2_i32_18 c0_i32_21
  let v39 : BitVec 32 := Scalar.extui v38
  let c0_i32_22 : BitVec 32 := 0#32
  let v40 : BitVec 1 := Scalar.cmpi .slt c2_i32_18 c0_i32_22
  let v41 : BitVec 32 := Scalar.extui v40
  let v42 : BitVec 32 := Scalar.subi v39 v41
  let v43 : BitVec 1 := Scalar.cmpi .ne v37 v42
  let v44 : BitVec 32 := Scalar.remsi v31 c2_i32_18
  let c0_i32_23 : BitVec 32 := 0#32
  let v45 : BitVec 1 := Scalar.cmpi .ne v44 c0_i32_23
  let v46 : BitVec 1 := Scalar.andi v43 v45
  let v32 : BitVec 32 := Scalar.divsi v31 c2_i32_18
  let c1_i32 : BitVec 32 := 1#32
  let v47 : BitVec 32 := Scalar.subi v32 c1_i32
  let v48 : BitVec 32 := Scalar.select v46 v47 v32
  let v49 : BitVec 32 := Scalar.subi v48 c0_i32_24
  let c1_i32_26 : BitVec 32 := 1#32
  let v51 : BitVec 32 := Scalar.divsi v49 c1_i32_26
  let v52 : BitVec 32 := Scalar.muli v51 c1_i32_26
  let v53 : BitVec 32 := Scalar.addi c0_i32_24 v52
  let c1_i32_28 : BitVec 32 := 1#32
  let arg14 : BitVec 32 := Scf.iv v53 c1_i32_28 k0_t2
  let v328 : BitVec 32 := Scalar.muli c2_i32_155 arg14
  let c1_i32_156 : BitVec 32 := 1#32
  let v329 : BitVec 32 := Scalar.addi v328 c1_i32_156
  let c1024_i32_157 : BitVec 32 := 1024#32
  let v330 : BitVec 32 := Scalar.muli v329 c1024_i32_157
  v330
def k0_mult10 (i : grid0.Coords) : BitVec 32 :=
  let c2_i32 : BitVec 32 := 2#32
  let arg2 : BitVec 32 := BitVec.ofNat 32 (i 2).val
  let v31 : BitVec 32 := Scalar.muli c2_i32 arg2
  let c0_i32_29 : BitVec 32 := 0#32
  let v56 : BitVec 32 := Scalar.addi v31 c0_i32_29
  let c1_i32_30 : BitVec 32 := 1#32
  let v57 : BitVec 32 := Scalar.addi v56 c1_i32_30
  let c1024_i32 : BitVec 32 := 1024#32
  let v58 : BitVec 32 := Scalar.muli v57 c1024_i32
  v58
def k0_off5 (i : grid0.Coords) : Fin 2 → Nat :=
  let c2_i32 : BitVec 32 := 2#32
  let arg2 : BitVec 32 := BitVec.ofNat 32 (i 2).val
  let v31 : BitVec 32 := Scalar.muli c2_i32 arg2
  let c0_i32_29 : BitVec 32 := 0#32
  let v56 : BitVec 32 := Scalar.addi v31 c0_i32_29
  let c1_i32_30 : BitVec 32 := 1#32
  let v57 : BitVec 32 := Scalar.addi v56 c1_i32_30
  let c1024_i32 : BitVec 32 := 1024#32
  let v58 : BitVec 32 := Scalar.muli v57 c1024_i32
  let v59 : BitVec 32 := v58
  let v60 : Index := Scalar.indexCast v59
  let c0_31 : Index := 0#32
  ![v60.toNat, 0]
def k0_mult11 (i : grid0.Coords) : BitVec 32 :=
  let c2_i32 : BitVec 32 := 2#32
  let arg2 : BitVec 32 := BitVec.ofNat 32 (i 2).val
  let v31 : BitVec 32 := Scalar.muli c2_i32 arg2
  let c0_i32_50 : BitVec 32 := 0#32
  let v122 : BitVec 32 := Scalar.addi v31 c0_i32_50
  let c1024_i32_51 : BitVec 32 := 1024#32
  let v124 : BitVec 32 := Scalar.muli v122 c1024_i32_51
  v124
def k0_off6 (i : grid0.Coords) (c0_i32_50 : BitVec 32) : Fin 2 → Nat :=
  let c2_i32 : BitVec 32 := 2#32
  let arg2 : BitVec 32 := BitVec.ofNat 32 (i 2).val
  let v31 : BitVec 32 := Scalar.muli c2_i32 arg2
  let v122 : BitVec 32 := Scalar.addi v31 c0_i32_50
  let c1024_i32_51 : BitVec 32 := 1024#32
  let v124 : BitVec 32 := Scalar.muli v122 c1024_i32_51
  let v125 : BitVec 32 := v124
  let v126 : Index := Scalar.indexCast v125
  let c0_52 : Index := 0#32
  ![v126.toNat, 0]
def k0_mult12 (i : grid0.Coords) : BitVec 32 :=
  let c2_i32 : BitVec 32 := 2#32
  let arg2 : BitVec 32 := BitVec.ofNat 32 (i 2).val
  let v31 : BitVec 32 := Scalar.muli c2_i32 arg2
  let c1_i32_85 : BitVec 32 := 1#32
  let v211 : BitVec 32 := Scalar.addi v31 c1_i32_85
  let c1024_i32_86 : BitVec 32 := 1024#32
  let v213 : BitVec 32 := Scalar.muli v211 c1024_i32_86
  v213
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c1_i32 : BitVec 32 := 1#32
  let v2 : BitVec 32 := Scalar.muli c1_i32 arg1
  let c0_i32 : BitVec 32 := 0#32
  let v3 : BitVec 32 := Scalar.addi v2 c0_i32
  let c0_i32_0 : BitVec 32 := 0#32
  ![v1.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg1
  let c0_i32 : BitVec 32 := 0#32
  let v1 : BitVec 32 := Scalar.addi v0 c0_i32
  let c2_i32 : BitVec 32 := 2#32
  let v2 : BitVec 32 := Scalar.muli c2_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg1
  let c0_i32 : BitVec 32 := 0#32
  let v1 : BitVec 32 := Scalar.addi v0 c0_i32
  let c2_i32 : BitVec 32 := 2#32
  let v2 : BitVec 32 := Scalar.muli c2_i32 v1
  let c1_i32_0 : BitVec 32 := 1#32
  let v3 : BitVec 32 := Scalar.addi v2 c1_i32_0
  let c0_i32_1 : BitVec 32 := 0#32
  ![arg0.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S2x8192x32x128 : Shape := ⟨4, ![2, 8192, 32, 128]⟩
abbrev S2x8192x32x64 : Shape := ⟨4, ![2, 8192, 32, 64]⟩
abbrev S2x8192x8192 : Shape := ⟨3, ![2, 8192, 8192]⟩
abbrev S2x8192x64 : Shape := ⟨3, ![2, 8192, 64]⟩
abbrev S2x8192x32x256 : Shape := ⟨4, ![2, 8192, 32, 256]⟩
abbrev S_ : Shape := ⟨0, ![]⟩
abbrev S2x32x8192x8192 : Shape := ⟨4, ![2, 32, 8192, 8192]⟩
abbrev S2x8192x8192x32 : Shape := ⟨4, ![2, 8192, 8192, 32]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x32x8192 : Shape := ⟨3, ![2, 32, 8192]⟩
abbrev S2x32x8192x1 : Shape := ⟨4, ![2, 32, 8192, 1]⟩
abbrev S2x32x128x8192 : Shape := ⟨4, ![2, 32, 128, 8192]⟩
abbrev S16384x4096 : Shape := ⟨2, ![16384, 4096]⟩

abbrev nBuf : Space → Nat
  | .hbm => 64
  | .vmem => 0
  | .smem => 0
  | _ => 0

abbrev bufTy : (tb : Table) → Fin (tcTables nBuf tb) → BufTy
  | .hbm, ⟨0, _⟩ => ⟨S2x8192x32x128, .f32⟩
  | .hbm, ⟨1, _⟩ => ⟨S2x8192x32x64, .f32⟩
  | .hbm, ⟨2, _⟩ => ⟨S2x8192x8192, .f32⟩
  | .hbm, ⟨3, _⟩ => ⟨S2x8192x64, .f32⟩
  | .hbm, ⟨4, _⟩ => ⟨S2x8192x32x256, .f32⟩
  | .hbm, ⟨5, _⟩ => ⟨S2x8192x32x128, .f32⟩
  | .hbm, ⟨6, _⟩ => ⟨S2x8192x32x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2x32x8192x8192, .f32⟩
  | .hbm, ⟨12, _⟩ => ⟨S2x8192x8192x32, .f32⟩
  | .hbm, ⟨13, _⟩ => ⟨S2x32x8192x8192, .f32⟩
  | .hbm, ⟨14, _⟩ => ⟨S2x32x8192x8192, .f32⟩
  | .hbm, ⟨15, _⟩ => ⟨S2x32x8192x8192, .f32⟩
  | .hbm, ⟨16, _⟩ => ⟨S2x32x8192x8192, .f32⟩
  | .hbm, ⟨17, _⟩ => ⟨S8192, .i32⟩
  | .hbm, ⟨18, _⟩ => ⟨S_, .i32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S1x8192, .i32⟩
  | .hbm, ⟨37, _⟩ => ⟨S8192x1, .i32⟩
  | .hbm, ⟨38, _⟩ => ⟨S8192x8192, .i32⟩
  | .hbm, ⟨39, _⟩ => ⟨S8192x8192, .i32⟩
  | .hbm, ⟨40, _⟩ => ⟨S8192x8192, .i1⟩
  | .hbm, ⟨41, _⟩ => ⟨S_, .f32⟩
  | .hbm, ⟨42, _⟩ => ⟨S_, .f32⟩
  | .hbm, ⟨43, _⟩ => ⟨S2x32x8192x8192, .i1⟩
  | .hbm, ⟨44, _⟩ => ⟨S2x32x8192x8192, .f32⟩
  | .hbm, ⟨45, _⟩ => ⟨S2x32x8192x8192, .f32⟩
  | .hbm, ⟨46, _⟩ => ⟨S_, .f32⟩
  | .hbm, ⟨47, _⟩ => ⟨S2x32x8192, .f32⟩
  | .hbm, ⟨48, _⟩ => ⟨S_, .f32⟩
  | .hbm, ⟨49, _⟩ => ⟨S2x32x8192, .f32⟩
  | .hbm, ⟨50, _⟩ => ⟨S2x32x8192, .f32⟩
  | .hbm, ⟨51, _⟩ => ⟨S2x32x8192x1, .f32⟩
  | .hbm, ⟨52, _⟩ => ⟨S2x32x8192x8192, .f32⟩
  | .hbm, ⟨53, _⟩ => ⟨S2x32x8192x8192, .f32⟩
  | .hbm, ⟨54, _⟩ => ⟨S2x32x8192x8192, .f32⟩
  | .hbm, ⟨55, _⟩ => ⟨S_, .f32⟩
  | .hbm, ⟨56, _⟩ => ⟨S2x32x8192, .f32⟩
  | .hbm, ⟨57, _⟩ => ⟨S2x32x8192x1, .f32⟩
  | .hbm, ⟨58, _⟩ => ⟨S2x32x8192x8192, .f32⟩
  | .hbm, ⟨59, _⟩ => ⟨S2x32x8192x8192, .f32⟩
  | .hbm, ⟨60, _⟩ => ⟨S2x32x128x8192, .f32⟩
  | .hbm, ⟨61, _⟩ => ⟨S2x8192x32x128, .f32⟩
  | .hbm, ⟨62, _⟩ => ⟨S16384x4096, .f32⟩
  | .hbm, ⟨63, _⟩ => ⟨S16384x4096, .bf16⟩
  | _, _ => ⟨S2x8192x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v18 : Ref sig .tc := ⟨.hbm, 45, rfl⟩
abbrev main_cst_2 : Ref sig .tc := ⟨.hbm, 46, rfl⟩
abbrev main_v19 : Ref sig .tc := ⟨.hbm, 47, rfl⟩
abbrev main_cst_3 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_4 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩

abbrev nD : Nat := 1
abbrev τ : Topo := Topo.v7x

variable {F : FTy → Type} [FloatOps F]
-- ==== Kernel2.lean ====
abbrev S2x8192x4096 : Shape := ⟨3, ![2, 8192, 4096]⟩
abbrev S2x4096x22016 : Shape := ⟨3, ![2, 4096, 22016]⟩
abbrev S2x3x22016 : Shape := ⟨3, ![2, 3, 22016]⟩
abbrev S2x22016 : Shape := ⟨2, ![2, 22016]⟩
abbrev S2x11008x4096 : Shape := ⟨3, ![2, 11008, 4096]⟩
abbrev S16384x4096 : Shape := ⟨2, ![16384, 4096]⟩
abbrev S2x1x22016 : Shape := ⟨3, ![2, 1, 22016]⟩
abbrev S16384x11008 : Shape := ⟨2, ![16384, 11008]⟩
abbrev S11008x4096 : Shape := ⟨2, ![11008, 4096]⟩
abbrev S1024x4096 : Shape := ⟨2, ![1024, 4096]⟩
abbrev S1x4096x256 : Shape := ⟨3, ![1, 4096, 256]⟩
abbrev S1x3x256 : Shape := ⟨3, ![1, 3, 256]⟩
abbrev S1x1x256 : Shape := ⟨3, ![1, 1, 256]⟩
abbrev S1x16x4096 : Shape := ⟨3, ![1, 16, 4096]⟩
abbrev S1024x256 : Shape := ⟨2, ![1024, 256]⟩
abbrev S16x4096 : Shape := ⟨2, ![16, 4096]⟩
abbrev S4096x256 : Shape := ⟨2, ![4096, 256]⟩
abbrev S8x256 : Shape := ⟨2, ![8, 256]⟩
abbrev S256x256 : Shape := ⟨2, ![256, 256]⟩
abbrev S3x256 : Shape := ⟨2, ![3, 256]⟩
abbrev S1x256 : Shape := ⟨2, ![1, 256]⟩
abbrev S256x4096 : Shape := ⟨2, ![256, 4096]⟩

abbrev nBuf : Space → Nat
  | .hbm => 10
  | .vmem => 26
  | .smem => 0
  | _ => 0

abbrev bufTy : (tb : Table) → Fin (tcTables nBuf tb) → BufTy
  | .hbm, ⟨0, _⟩ => ⟨S2x8192x4096, .f32⟩
  | .hbm, ⟨1, _⟩ => ⟨S2x4096x22016, .f32⟩
  | .hbm, ⟨2, _⟩ => ⟨S2x3x22016, .f32⟩
  | .hbm, ⟨3, _⟩ => ⟨S2x22016, .f32⟩
  | .hbm, ⟨4, _⟩ => ⟨S2x11008x4096, .f32⟩
  | .hbm, ⟨5, _⟩ => ⟨S16384x4096, .f32⟩
  | .hbm, ⟨6, _⟩ => ⟨S16384x4096, .bf16⟩
  | .hbm, ⟨7, _⟩ => ⟨S2x1x22016, .f32⟩
  | .hbm, ⟨8, _⟩ => ⟨S16384x11008, .bf16⟩
  | .hbm, ⟨9, _⟩ => ⟨S11008x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x3x256, .f32⟩
  | .local _ .vmem, ⟨7, _⟩ => ⟨S1x3x256, .f32⟩
  | .local _ .vmem, ⟨8, _⟩ => ⟨S1x3x256, .f32⟩
  | .local _ .vmem, ⟨9, _⟩ => ⟨S1x3x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x16x4096, .f32⟩
  | .local _ .vmem, ⟨15, _⟩ => ⟨S1x16x4096, .f32⟩
  | .local _ .vmem, ⟨16, _⟩ => ⟨S1024x256, .bf16⟩
  | .local _ .vmem, ⟨17, _⟩ => ⟨S1024x256, .bf16⟩
  | .local _ .vmem, ⟨18, _⟩ => ⟨S16x4096, .bf16⟩
  | .local _ .vmem, ⟨19, _⟩ => ⟨S16x4096, .bf16⟩
  | .local _ .vmem, ⟨20, _⟩ => ⟨S4096x256, .bf16⟩
  | .local _ .vmem, ⟨21, _⟩ => ⟨S4096x256, .bf16⟩
  | .local _ .vmem, ⟨22, _⟩ => ⟨S1024x256, .f32⟩
  | .local _ .vmem, ⟨23, _⟩ => ⟨S1024x256, .f32⟩
  | .local _ .vmem, ⟨24, _⟩ => ⟨S8x256, .f32⟩
  | .local _ .vmem, ⟨25, _⟩ => ⟨S8x256, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![689], ![false]⟩

def cc0_transform_0 (i : grid0.Coords) : Fin 2 → Nat :=
  let arg0 : BitVec 32 := BitVec.ofNat 32 (i 0).val
  let c687_i32 : BitVec 32 := 687#32
  let v0 : BitVec 32 := Scalar.minsi arg0 c687_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_1 (i : grid0.Coords) : Fin 3 → Nat :=
  let arg0 : BitVec 32 := BitVec.ofNat 32 (i 0).val
  let c687_i32 : BitVec 32 := 687#32
  let v0 : BitVec 32 := Scalar.minsi arg0 c687_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![c0_i32_4.toNat, c0_i32_5.toNat, v17.toNat]

def cc0_transform_2 (i : grid0.Coords) : Fin 3 → Nat :=
  let arg0 : BitVec 32 := BitVec.ofNat 32 (i 0).val
  let c687_i32 : BitVec 32 := 687#32
  let v0 : BitVec 32 := Scalar.minsi arg0 c687_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c43_i32 : BitVec 32 := 43#32
  let v18 : BitVec 32 := Scalar.addi c43_i32 v17
  let c0_i32_4 : BitVec 32 := 0#32
  let c0_i32_5 : BitVec 32 := 0#32
  let c0_i32_6 : BitVec 32 := 0#32
  ![c0_i32_4.toNat, c0_i32_5.toNat, v18.toNat]

def cc0_transform_3 (i : grid0.Coords) : Fin 3 → Nat :=
  let arg0 : BitVec 32 := BitVec.ofNat 32 (i 0).val
  let c1_i32 : BitVec 32 := 1#32
  let v0 : BitVec 32 := Scalar.maxsi arg0 c1_i32
  let c1_i32_0 : BitVec 32 := 1#32
  let v1 : BitVec 32 := Scalar.subi v0 c1_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![c0_i32_6.toNat, c0_i32_7.toNat, v18.toNat]

def cc0_transform_4 (i : grid0.Coords) : Fin 3 → Nat :=
  let arg0 : BitVec 32 := BitVec.ofNat 32 (i 0).val
  let c1_i32 : BitVec 32 := 1#32
  let v0 : BitVec 32 := Scalar.maxsi arg0 c1_i32
  let c1_i32_0 : BitVec 32 := 1#32
  let v1 : BitVec 32 := Scalar.subi v0 c1_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c43_i32 : BitVec 32 := 43#32
  let v19 : BitVec 32 := Scalar.addi c43_i32 v18
  let c0_i32_6 : BitVec 32 := 0#32
  let c0_i32_7 : BitVec 32 := 0#32
  let c0_i32_8 : BitVec 32 := 0#32
  ![c0_i32_6.toNat, c0_i32_7.toNat, v19.toNat]

def cc0_transform_5 (i : grid0.Coords) : Fin 3 → Nat :=
  let arg0 : BitVec 32 := BitVec.ofNat 32 (i 0).val
  let c1_i32 : BitVec 32 := 1#32
  let v0 : BitVec 32 := Scalar.maxsi arg0 c1_i32
  let c1_i32_0 : BitVec 32 := 1#32
  let v1 : BitVec 32 := Scalar.subi v0 c1_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![c0_i32_6.toNat, c0_i32_7.toNat, v18.toNat]

def cc0_transform_6 (i : grid0.Coords) : Fin 3 → Nat :=
  let arg0 : BitVec 32 := BitVec.ofNat 32 (i 0).val
  let c1_i32 : BitVec 32 := 1#32
  let v0 : BitVec 32 := Scalar.maxsi arg0 c1_i32
  let c1_i32_0 : BitVec 32 := 1#32
  let v1 : BitVec 32 := Scalar.subi v0 c1_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c43_i32 : BitVec 32 := 43#32
  let v19 : BitVec 32 := Scalar.addi c43_i32 v18
  let c0_i32_6 : BitVec 32 := 0#32
  let c0_i32_7 : BitVec 32 := 0#32
  let c0_i32_8 : BitVec 32 := 0#32
  ![c0_i32_6.toNat, c0_i32_7.toNat, v19.toNat]

def cc0_transform_7 (i : grid0.Coords) : Fin 3 → Nat :=
  let arg0 : BitVec 32 := BitVec.ofNat 32 (i 0).val
  let c687_i32 : BitVec 32 := 687#32
  let v0 : BitVec 32 := Scalar.minsi arg0 c687_i32
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.maxsi arg0 c1_i32
  let c1_i32_0 : BitVec 32 := 1#32
  let v1 : BitVec 32 := Scalar.subi v0 c1_i32_0
  let c16_i32 : BitVec 32 := 16#32
  let c0_i32 : BitVec 32 := 0#32
  let v2 : BitVec 1 := Scalar.cmpi .eq c16_i32 c0_i32
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.maxsi arg0 c1_i32_5
  let c1_i32_6 : BitVec 32 := 1#32
  let v13 : BitVec 32 := Scalar.subi v12 c1_i32_6
  let c16_i32_7 : BitVec 32 := 16#32
  let v14 : BitVec 32 := Scalar.divsi v13 c16_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c16_i32_7 c0_i32_10
  let v21 : BitVec 32 := Scalar.extui v20
  let c0_i32_11 : BitVec 32 := 0#32
  let v22 : BitVec 1 := Scalar.cmpi .slt c16_i32_7 c0_i32_11
  let v23 : BitVec 32 := Scalar.extui v22
  let v24 : BitVec 32 := Scalar.subi v21 v23
  let v25 : BitVec 1 := Scalar.cmpi .ne v19 v24
  let v26 : BitVec 32 := Scalar.remsi v13 c16_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  ![v11.toNat, v30.toNat]

def cc0_transform_9 (i : grid0.Coords) : Fin 2 → Nat :=
  let arg0 : BitVec 32 := BitVec.ofNat 32 (i 0).val
  let c687_i32 : BitVec 32 := 687#32
  let v0 : BitVec 32 := Scalar.minsi arg0 c687_i32
  let c0_i32 : BitVec 32 := 0#32
  let c0_i32_0 : BitVec 32 := 0#32
  ![v0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S2x8192x4096 : Shape := ⟨3, ![2, 8192, 4096]⟩
abbrev S2x4096x22016 : Shape := ⟨3, ![2, 4096, 22016]⟩
abbrev S2x3x22016 : Shape := ⟨3, ![2, 3, 22016]⟩
abbrev S2x22016 : Shape := ⟨2, ![2, 22016]⟩
abbrev S2x11008x4096 : Shape := ⟨3, ![2, 11008, 4096]⟩
abbrev S1x3x22016 : Shape := ⟨3, ![1, 3, 22016]⟩
abbrev S3x22016 : Shape := ⟨2, ![3, 22016]⟩
abbrev S1x22016 : Shape := ⟨2, ![1, 22016]⟩
abbrev S22016 : Shape := ⟨1, ![22016]⟩
abbrev S1x4096x22016 : Shape := ⟨3, ![1, 4096, 22016]⟩
abbrev S4096x22016 : Shape := ⟨2, ![4096, 22016]⟩
abbrev S2x8192x22016 : Shape := ⟨3, ![2, 8192, 22016]⟩
abbrev S_ : Shape := ⟨0, ![]⟩
abbrev S2x8194x22016 : Shape := ⟨3, ![2, 8194, 22016]⟩
abbrev S1x1x22016 : Shape := ⟨3, ![1, 1, 22016]⟩
abbrev S2x8192x11008 : Shape := ⟨3, ![2, 8192, 11008]⟩
abbrev S16384x11008 : Shape := ⟨2, ![16384, 11008]⟩
abbrev S1x11008x4096 : Shape := ⟨3, ![1, 11008, 4096]⟩
abbrev S11008x4096 : Shape := ⟨2, ![11008, 4096]⟩

abbrev nBuf : Space → Nat
  | .hbm => 55
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x4096x22016, .f32⟩
  | .hbm, ⟨2, _⟩ => ⟨S2x3x22016, .f32⟩
  | .hbm, ⟨3, _⟩ => ⟨S2x22016, .f32⟩
  | .hbm, ⟨4, _⟩ => ⟨S2x11008x4096, .f32⟩
  | .hbm, ⟨5, _⟩ => ⟨S1x3x22016, .f32⟩
  | .hbm, ⟨6, _⟩ => ⟨S3x22016, .f32⟩
  | .hbm, ⟨7, _⟩ => ⟨S1x22016, .f32⟩
  | .hbm, ⟨8, _⟩ => ⟨S22016, .f32⟩
  | .hbm, ⟨9, _⟩ => ⟨S1x4096x22016, .f32⟩
  | .hbm, ⟨10, _⟩ => ⟨S4096x22016, .f32⟩
  | .hbm, ⟨11, _⟩ => ⟨S2x8192x22016, .f32⟩
  | .hbm, ⟨12, _⟩ => ⟨S_, .i32⟩
  | .hbm, ⟨13, _⟩ => ⟨S_, .f32⟩
  | .hbm, ⟨14, _⟩ => ⟨S2x8194x22016, .f32⟩
  | .hbm, ⟨15, _⟩ => ⟨S1x22016, .f32⟩
  | .hbm, ⟨16, _⟩ => ⟨S22016, .f32⟩
  | .hbm, ⟨17, _⟩ => ⟨S2x8192x22016, .f32⟩
  | .hbm, ⟨18, _⟩ => ⟨S1x1x22016, .f32⟩
  | .hbm, ⟨19, _⟩ => ⟨S2x8192x22016, .f32⟩
  | .hbm, ⟨20, _⟩ => ⟨S2x8192x22016, .f32⟩
  | .hbm, ⟨21, _⟩ => ⟨S1x1x22016, .f32⟩
  | .hbm, ⟨22, _⟩ => ⟨S2x8192x22016, .f32⟩
  | .hbm, ⟨23, _⟩ => ⟨S2x8192x22016, .f32⟩
  | .hbm, ⟨24, _⟩ => ⟨S1x22016, .f32⟩
  | .hbm, ⟨25, _⟩ => ⟨S22016, .f32⟩
  | .hbm, ⟨26, _⟩ => ⟨S2x8192x22016, .f32⟩
  | .hbm, ⟨27, _⟩ => ⟨S1x1x22016, .f32⟩
  | .hbm, ⟨28, _⟩ => ⟨S2x8192x22016, .f32⟩
  | .hbm, ⟨29, _⟩ => ⟨S2x8192x22016, .f32⟩
  | .hbm, ⟨30, _⟩ => ⟨S2x8192x22016, .f32⟩
  | .hbm, ⟨31, _⟩ => ⟨S1x22016, .f32⟩
  | .hbm, ⟨32, _⟩ => ⟨S22016, .f32⟩
  | .hbm, ⟨33, _⟩ => ⟨S2x8192x22016, .f32⟩
  | .hbm, ⟨34, _⟩ => ⟨S1x1x22016, .f32⟩
  | .hbm, ⟨35, _⟩ => ⟨S2x8192x22016, .f32⟩
  | .hbm, ⟨36, _⟩ => ⟨S2x8192x22016, .f32⟩
  | .hbm, ⟨37, _⟩ => ⟨S2x8192x22016, .f32⟩
  | .hbm, ⟨38, _⟩ => ⟨S2x8192x11008, .f32⟩
  | .hbm, ⟨39, _⟩ => ⟨S2x8192x11008, .f32⟩
  | .hbm, ⟨40, _⟩ => ⟨S2x8192x11008, .f32⟩
  | .hbm, ⟨41, _⟩ => ⟨S2x8192x11008, .f32⟩
  | .hbm, ⟨42, _⟩ => ⟨S_, .f32⟩
  | .hbm, ⟨43, _⟩ => ⟨S2x8192x11008, .f32⟩
  | .hbm, ⟨44, _⟩ => ⟨S2x8192x11008, .f32⟩
  | .hbm, ⟨45, _⟩ => ⟨S_, .f32⟩
  | .hbm, ⟨46, _⟩ => ⟨S2x8192x11008, .f32⟩
  | .hbm, ⟨47, _⟩ => ⟨S2x8192x11008, .f32⟩
  | .hbm, ⟨48, _⟩ => ⟨S2x8192x11008, .f32⟩
  | .hbm, ⟨49, _⟩ => ⟨S2x8192x11008, .f32⟩
  | .hbm, ⟨50, _⟩ => ⟨S16384x11008, .f32⟩
  | .hbm, ⟨51, _⟩ => ⟨S16384x11008, .bf16⟩
  | .hbm, ⟨52, _⟩ => ⟨S1x11008x4096, .f32⟩
  | .hbm, ⟨53, _⟩ => ⟨S11008x4096, .f32⟩
  | .hbm, ⟨54, _⟩ => ⟨S11008x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel3.lean ====
abbrev S2x8192x11008 : Shape := ⟨3, ![2, 8192, 11008]⟩
abbrev S11008x4096 : Shape := ⟨2, ![11008, 4096]⟩
abbrev S2x8192x4096 : Shape := ⟨3, ![2, 8192, 4096]⟩
abbrev S2x4096 : Shape := ⟨2, ![2, 4096]⟩
abbrev S16384x11008 : Shape := ⟨2, ![16384, 11008]⟩
abbrev S16384x4096 : Shape := ⟨2, ![16384, 4096]⟩
abbrev S2x1x4096 : Shape := ⟨3, ![2, 1, 4096]⟩
abbrev S512x11008 : Shape := ⟨2, ![512, 11008]⟩
abbrev S11008x512 : Shape := ⟨2, ![11008, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 10
  | .vmem => 10
  | .smem => 0
  | _ => 0

abbrev bufTy : (tb : Table) → Fin (tcTables nBuf tb) → BufTy
  | .hbm, ⟨0, _⟩ => ⟨S2x8192x11008, .f32⟩
  | .hbm, ⟨1, _⟩ => ⟨S11008x4096, .f32⟩
  | .hbm, ⟨2, _⟩ => ⟨S2x8192x4096, .f32⟩
  | .hbm, ⟨3, _⟩ => ⟨S2x4096, .f32⟩
  | .hbm, ⟨4, _⟩ => ⟨S16384x11008, .f32⟩
  | .hbm, ⟨5, _⟩ => ⟨S16384x11008, .bf16⟩
  | .hbm, ⟨6, _⟩ => ⟨S11008x4096, .bf16⟩
  | .hbm, ⟨7, _⟩ => ⟨S16384x4096, .f32⟩
  | .hbm, ⟨8, _⟩ => ⟨S2x1x4096, .f32⟩
  | .hbm, ⟨9, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | _, _ => ⟨S2x8192x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S2x8192x11008 : Shape := ⟨3, ![2, 8192, 11008]⟩
abbrev S11008x4096 : Shape := ⟨2, ![11008, 4096]⟩
abbrev S2x8192x4096 : Shape := ⟨3, ![2, 8192, 4096]⟩
abbrev S2x4096 : Shape := ⟨2, ![2, 4096]⟩
abbrev S_ : Shape := ⟨0, ![]⟩
abbrev S2x1x4096 : Shape := ⟨3, ![2, 1, 4096]⟩
abbrev S16384x4096 : Shape := ⟨2, ![16384, 4096]⟩

abbrev nBuf : Space → Nat
  | .hbm => 16
  | .vmem => 0
  | .smem => 0
  | _ => 0

abbrev bufTy : (tb : Table) → Fin (tcTables nBuf tb) → BufTy
  | .hbm, ⟨0, _⟩ => ⟨S2x8192x11008, .f32⟩
  | .hbm, ⟨1, _⟩ => ⟨S11008x4096, .f32⟩
  | .hbm, ⟨2, _⟩ => ⟨S2x8192x4096, .f32⟩
  | .hbm, ⟨3, _⟩ => ⟨S2x4096, .f32⟩
  | .hbm, ⟨4, _⟩ => ⟨S2x8192x4096, .f32⟩
  | .hbm, ⟨5, _⟩ => ⟨S_, .f32⟩
  | .hbm, ⟨6, _⟩ => ⟨S2x8192x4096, .f32⟩
  | .hbm, ⟨7, _⟩ => ⟨S2x8192x4096, .f32⟩
  | .hbm, ⟨8, _⟩ => ⟨S2x1x4096, .f32⟩
  | .hbm, ⟨9, _⟩ => ⟨S_, .f32⟩
  | .hbm, ⟨10, _⟩ => ⟨S2x1x4096, .f32⟩
  | .hbm, ⟨11, _⟩ => ⟨S2x1x4096, .f32⟩
  | .hbm, ⟨12, _⟩ => ⟨S2x8192x4096, .f32⟩
  | .hbm, ⟨13, _⟩ => ⟨S2x8192x4096, .f32⟩
  | .hbm, ⟨14, _⟩ => ⟨S2x8192x4096, .f32⟩
  | .hbm, ⟨15, _⟩ => ⟨S16384x4096, .f32⟩
  | _, _ => ⟨S2x8192x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.UpTile.lean ====
module

public import proofs.«01_k».proof.Proof.Gen.Kernel2Ideal.Value
public import Idealize.ShloMosaic.Lib.Pointwise
public import Idealize.ShloMosaic.Lib.StableHlo.ReadAt
public import Idealize.ShloMosaic.Lib.Pipeline.ValueKit

/-! The up part of the ConvFFN: what the body computes of one tile, element by element. -/

@[expose] public section

noncomputable section

namespace Cert.Kernel2Ideal.Up

open Idealize.ShloMosaic Idealize.ShloMosaic.TcCoe Idealize.SL.Sem Cert.Kernel2Ideal Cert.Kernel2Ideal.Gen

/-- One element of the convolution: the bias and three neighbours in a column. -/
def convAt (b w0 w1 w2 x0 x1 x2 : EReal) : EReal := b + w0 * x0 + w1 * x1 + w2 * x2

/-- One element of the gate: silu of the second half times the first half. -/
def gateAt (a g : EReal) : EReal := g * FloatOps.logistic (F := Ideal) (φ := .f32) g * a

/-- Row numbers of a chunk. -/
abbrev rowNo : IVec S256x256 32 := iota .tc S256x256 32 [0] iota_S256x256_d0_w32

/-- What a chunk of 256 rows writes. -/
def chunk (wa wg : Vec Ideal S3x256 .f32) (ba bg : Vec Ideal S1x256 .f32) (pa pg : Vec Ideal S8x256 .f32) (ua ug : Vec Ideal S256x256 .f32) :
    Vec Ideal S256x256 .bf16 :=
  k0_pay27 rowNo wg bg ug (k0_pay22 rowNo wa ba pa ua) (k0_pay23 pg) (k0_pay24 pg) (k0_pay25 rowNo pg ug) (k0_pay26 rowNo)

section Chunk
variable (wa wg : Vec Ideal S3x256 .f32) (ba bg : Vec Ideal S1x256 .f32) (pa pg : Vec Ideal S8x256 .f32) (v ua ug : Vec Ideal S256x256 .f32)

theorem chunk1 : k0_pay41 wg bg ug (k0_pay35 rowNo wa ba pa ua) (k0_pay36 pg) (k0_pay37 pg) (k0_pay38 rowNo pg ug) (k0_pay39 rowNo) (k0_pay40 rowNo) 2#32
    = chunk wa wg ba bg pa pg ua ug := rfl
theorem chunk2 : k0_pay55 wg bg ug (k0_pay49 rowNo wa ba pa ua) (k0_pay51 pg) (k0_pay52 rowNo pg ug) (k0_pay53 rowNo) (k0_pay54 rowNo pg ug)
    = chunk wa wg ba bg pa pg ua ug := rfl
theorem chunk3 : k0_pay1 wg bg ug (k0_pay65 rowNo wa ba ua (k0_pay63 v) (k0_pay64 v)) (k0_pay67 rowNo pg ug) (k0_pay68 rowNo pg ug) (k0_pay69 wg)
    = chunk wa wg ba bg (k0_pay28 v) pg ua ug := rfl

/-- The comparison of row numbers picks as the numbers compare. -/
theorem pick (i : Fin 256) (n : ℕ) (hn : n < 256) (x y : EReal) :
    Scalar.select (IntOp.cmpi CmpIPredicate.eq (BitVec.ofNat 32 i.val) (BitVec.ofNat 32 n)) x y = if i.val = n then x else y := by
  have e : BitVec.ofNat 32 i.val = BitVec.ofNat 32 n ↔ i.val = n := by
    constructor
    · intro h; have := congrArg BitVec.toNat h; simp [BitVec.toNat_ofNat] at this; omega
    · intro h; rw [h]
  by_cases h : i.val = n
  · rw [if_pos h]; simp [Scalar.select, IntOp.cmpi, e.mpr h]
  · rw [if_neg h]
    have : ¬ BitVec.ofNat 32 i.val = BitVec.ofNat 32 n := fun q => h (e.mp q)
    have q : (BitVec.ofNat 32 i.val == BitVec.ofNat 32 n) = false := by simpa using this
    simp only [Scalar.select, IntOp.cmpi, q]
    rfl

/-- The rows around row `i` as a column that starts two rows before the chunk. -/
theorem conv_apply (X : ℕ → EReal) (i j : Fin 256) (h6 : pa (ix2 6 j) = X 0) (h7 : pa (ix2 7 j) = X 1) (hu : ∀ r : Fin 256, ua (ix2 r j) = X (r.val + 2)) :
    k0_pay22 rowNo wa ba pa ua (ix2 i j)
      = convAt (ba (ix2 0 j)) (wa (ix2 0 j)) (wa (ix2 1 j)) (wa (ix2 2 j)) (X i.val) (X (i.val + 1)) (X (i.val + 2)) := by
  pointwise [k0_pay22, rowNo]
  have p0 := fun x y => pick i 0 (by omega) x y
  have p1 := fun x y => pick i 1 (by omega) x y
  rw [p0, p0, p1, h6, h7, hu, hu, hu]
  unfold convAt
  have := i.isLt
  congr 2
  · congr 2
    by_cases h0 : i.val = 0
    · rw [if_pos h0, h0]
    · rw [if_neg h0]
      by_cases h1 : i.val = 1
      · rw [if_pos h1, h1]
      · rw [if_neg h1]; congr 1; show (i.val + 256 - 2) % 256 + 2 = i.val; omega
  · congr 1
    by_cases h0 : i.val = 0
    · rw [if_pos h0, h0]
    · rw [if_neg h0]; congr 1; show (i.val + 256 - 1) % 256 + 2 = i.val + 1; omega

theorem chunk_apply (X Y : ℕ → EReal) (i j : Fin 256) (h6 : pa (ix2 6 j) = X 0) (h7 : pa (ix2 7 j) = X 1) (hu : ∀ r : Fin 256, ua (ix2 r j) = X (r.val + 2))
    (g6 : pg (ix2 6 j) = Y 0) (g7 : pg (ix2 7 j) = Y 1) (gu : ∀ r : Fin 256, ug (ix2 r j) = Y (r.val + 2)) :
    chunk wa wg ba bg pa pg ua ug (ix2 i j)
      = gateAt (convAt (ba (ix2 0 j)) (wa (ix2 0 j)) (wa (ix2 1 j)) (wa (ix2 2 j)) (X i.val) (X (i.val + 1)) (X (i.val + 2)))
        (convAt (bg (ix2 0 j)) (wg (ix2 0 j)) (wg (ix2 1 j)) (wg (ix2 2 j)) (Y i.val) (Y (i.val + 1)) (Y (i.val + 2))) := by
  have e : chunk wa wg ba bg pa pg ua ug (ix2 i j) = gateAt (k0_pay22 rowNo wa ba pa ua (ix2 i j)) (k0_pay22 rowNo wg bg pg ug (ix2 i j)) := rfl
  rw [e, conv_apply wa ba pa ua X i j h6 h7 hu, conv_apply wg bg pg ug Y i j g6 g7 gu]

end Chunk

/-- A product of 256 rows. -/
theorem mul_apply (x : Vec Ideal S256x4096 .bf16) (w : Vec Ideal S4096x256 .bf16) (i j : Fin 256) :
    k0_pay2 (k0_pay61 x w) (ix2 i j) = ∑ k : Fin 4096, x (ix2 i k) * w (ix2 k j) := by
  pointwise [k0_pay61, k0_pay2, k0_pay60]

/-- The last eight rows of a chunk. -/
theorem last_apply (v : Vec Ideal S256x256 .f32) (a : Fin 8) (j : Fin 256) : k0_pay28 v (ix2 a j) = v (ix2 ⟨248 + a.val, by omega⟩ j) := by
  pointwise [k0_pay28]
theorem weight_apply (v : Vec Ideal S1x4096x256 .f32) (k : Fin 4096) (j : Fin 256) : k0_pay10 v (ix2 k j) = v (ix3 0 k j) := by
  pointwise [k0_pay10]
theorem down_apply (v : Vec Ideal S1x16x4096 .f32) (i : Fin 16) (e : Fin 4096) : k0_pay12 v (ix2 i e) = v (ix3 0 i e) := by
  pointwise [k0_pay12]
theorem taps_apply (v : Vec Ideal S1x3x256 .f32) (a : Fin 3) (j : Fin 256) : k0_pay13 v (ix2 a j) = v (ix3 0 a j) := by
  pointwise [k0_pay13]
theorem bias_apply (v : Vec Ideal S1x1x256 .f32) (j : Fin 256) : k0_pay15 v (ix2 0 j) = v (ix3 0 0 j) := by
  pointwise [k0_pay15]

/-- Whether the tile whose product was taken last begins a sequence, as the body finds it. -/
def starts (v : BitVec 32) : BitVec 1 :=
  let k := Scalar.select (Scalar.cmpi .eq 8#32 0#32) 1#32 8#32
  let r := Scalar.remsi v k
  Scalar.cmpi .eq (Scalar.select (Scalar.andi (Scalar.xori (Scalar.cmpi .slt r 0#32) (Scalar.cmpi .slt k 0#32)) (Scalar.cmpi .ne r 0#32)) (Scalar.addi r k) r) 0#32

theorem halo_apply (v : BitVec 32) (p : Vec Ideal S8x256 .f32) (a : Fin 8) (j : Fin 256) :
    k0_pay17 v 8#32 p (ix2 a j) = if starts v = 1#1 then 0 else p (ix2 a j) := by
  pointwise [k0_pay17]
  rfl

/-- The rows `o` to `o + 255` of a tile. -/
abbrev rows (o : ℕ) (inb : ∀ a, (![o, 0] : Fin 2 → ℕ) a + S256x256.size a ≤ S1024x256.size a) : Rect S1024x256 :=
  Rect.unit (s := S1024x256) ![o, 0] S256x256.size inb

section Rows
variable {e : EltTy} (o : ℕ) (inb : ∀ a, (![o, 0] : Fin 2 → ℕ) a + S256x256.size a ≤ S1024x256.size a) (w : Vec Ideal S256x256 e)
  (L : List (View.Piece (Elt Ideal) S1024x256 e)) (r : Fin 1024) (i j : Fin 256)

theorem rows_emb (hi : r.val = o + i.val) : (rows o inb).emb (ix2 i j : S256x256.Idx) = (ix2 r j : S1024x256.Idx) := by
  funext a; apply Fin.ext
  match a with
  | ⟨0, _⟩ => show o + 1 * i.val = r.val; omega
  | ⟨1, _⟩ => show 0 + 1 * j.val = j.val; omega

theorem row_hit (hi : r.val = o + i.val) : View.canon ((⟨rows o inb, w⟩ : View.Piece (Elt Ideal) S1024x256 e) :: L) (ix2 r j) = w (ix2 i j) := by
  rw [← rows_emb o inb r i j hi]
  exact View.canon_cons_emb (rows o inb) w L (ix2 i j : S256x256.Idx)

theorem row_miss (hi : r.val < o) : View.canon ((⟨rows o inb, w⟩ : View.Piece (Elt Ideal) S1024x256 e) :: L) (ix2 r j) = View.canon L (ix2 r j) := by
  refine View.canon_cons_of_not_mem _ _ ?_
  rw [Rect.mem_set_unit]
  intro h
  have : o ≤ r.val := (h 0).1
  omega
end Rows

/-- The last four writes of 256 rows each decide what a tile holds. -/
theorem canon_rows {e : EltTy} (w0 w1 w2 w3 : Vec Ideal S256x256 e) (L : List (View.Piece (Elt Ideal) S1024x256 e)) (G : Fin 1024 → Fin 256 → Elt Ideal e)
    (h0 : ∀ i j : Fin 256, w0 (ix2 i j) = G ⟨i.val, by omega⟩ j) (h1 : ∀ i j : Fin 256, w1 (ix2 i j) = G ⟨256 + i.val, by omega⟩ j)
    (h2 : ∀ i j : Fin 256, w2 (ix2 i j) = G ⟨512 + i.val, by omega⟩ j) (h3 : ∀ i j : Fin 256, w3 (ix2 i j) = G ⟨768 + i.val, by omega⟩ j) (r : Fin 1024) (j : Fin 256) :
    View.canon ((⟨rows 768 inb_S1024x256_S256x256_768_0, w3⟩ : View.Piece (Elt Ideal) S1024x256 e)
      :: ⟨rows 512 inb_S1024x256_S256x256_512_0, w2⟩
      :: ⟨rows 256 inb_S1024x256_S256x256_256_0, w1⟩
      :: ⟨rows 0 inb_S1024x256_S256x256_0_0, w0⟩ :: L) (ix2 r j) = G r j := by
  have hr := r.isLt
  have eq (n : ℕ) (hn : n < 1024) (h : n = r.val) : G ⟨n, hn⟩ j = G r j := by
    have : (⟨n, hn⟩ : Fin 1024) = r := Fin.ext h
    rw [this]
  by_cases c3 : 768 ≤ r.val
  · rw [row_hit 768 _ w3 _ r ⟨r.val - 768, by omega⟩ j (show r.val = 768 + (r.val - 768) by omega), h3]
    exact eq _ _ (show 768 + (r.val - 768) = r.val by omega)
  rw [row_miss 768 _ w3 _ r j (by omega)]
  by_cases c2 : 512 ≤ r.val
  · rw [row_hit 512 _ w2 _ r ⟨r.val - 512, by omega⟩ j (show r.val = 512 + (r.val - 512) by omega), h2]
    exact eq _ _ (show 512 + (r.val - 512) = r.val by omega)
  rw [row_miss 512 _ w2 _ r j (by omega)]
  by_cases c1 : 256 ≤ r.val
  · rw [row_hit 256 _ w1 _ r ⟨r.val - 256, by omega⟩ j (show r.val = 256 + (r.val - 256) by omega), h1]
    exact eq _ _ (show 256 + (r.val - 256) = r.val by omega)
  rw [row_miss 256 _ w1 _ r j (by omega), row_hit 0 _ w0 _ r ⟨r.val, by omega⟩ j (show r.val = 0 + r.val by omega), h0]

end Cert.Kernel2Ideal.Up

end
-- ==== Proof.Up.lean ====
module

public import proofs.«01_k».proof.Proof.UpTile
public import Idealize.ShloMosaic.Lib.WholeRead

/-! The up part of the ConvFFN: what the carried buffers hold. -/

@[expose] public section

noncomputable section

namespace Cert.Kernel2Ideal.Up

open Idealize.ShloMosaic Idealize.ShloMosaic.TcCoe Idealize.SL.Sem Cert.Kernel2Ideal Cert.Kernel2Ideal.Gen

variable (m : (ℓ : Loc nD τ sig) → Buf (Elt Ideal) ℓ) (c : Dev nD) (t : Fin cfg0.N)

/-- What the grid point before left. -/
abbrev prev := outsAt0 (F := Ideal) m c (t.val - 1) (Nat.lt_of_le_of_lt (Nat.sub_le _ _) t.isLt)
/-- What this grid point leaves. -/
abbrev here := outsAt0 (F := Ideal) m c t.val t.isLt

/-- A tile of products. -/
def prodAt (x : Vec Ideal S1024x4096 .bf16) (w : Vec Ideal S4096x256 .bf16) (r : Fin 1024) (j : Fin 256) : EReal :=
  ∑ k : Fin 4096, x (ix2 r k) * w (ix2 k j)

/-- A load of a part reads the entry it names. -/
theorem rd {e : EltTy} {s : Shape} {κ : Kind} {sp : Space} {M : Memref sig κ sp s e} (h : M.IsWhole) (X : s.Idx → Elt Ideal e) {off size : Fin s.rank → ℕ}
    {inb : ∀ a, off a + size a ≤ s.size a} (x : (Rect.unit off size inb).toLoadRect.shape.Idx) (y : s.Idx) (hy : ∀ a, off a + 1 * (x a).val = (y a).val) :
    View.readAt (Elt Ideal) M.view (Rect.unit off size inb).toLoadRect (h.unread X) x = X y := by
  refine (Memref.IsWhole.readAt_unread h X _ x).trans (congrArg X ?_)
  funext a; exact Fin.ext (hy a)

theorem all2 {f g : Fin 2 → ℕ} (h0 : f 0 = g 0) (h1 : f 1 = g 1) : ∀ a, f a = g a := by
  intro a; match a with | ⟨0, _⟩ => exact h0 | ⟨1, _⟩ => exact h1
theorem all3 {f g : Fin 3 → ℕ} (h0 : f 0 = g 0) (h1 : f 1 = g 1) (h2 : f 2 = g 2) : ∀ a, f a = g a := by
  intro a; match a with | ⟨0, _⟩ => exact h0 | ⟨1, _⟩ => exact h1 | ⟨2, _⟩ => exact h2

/-- Rows of the input tile. -/
theorem rdx {κ : Kind} {sp : Space} {M : Memref sig κ sp S1024x4096 .bf16} (h : M.IsWhole) (X : Vec Ideal S1024x4096 .bf16) (o : ℕ)
    {inb : ∀ a, (![o, 0] : Fin 2 → ℕ) a + S256x4096.size a ≤ S1024x4096.size a} (i : Fin 256) (k : Fin 4096) (r : Fin 1024) (hr : o + i.val = r.val) :
    View.readAt (Elt Ideal) M.view (Rect.unit (s := S1024x4096) ![o, 0] S256x4096.size inb).toLoadRect (h.unread X) (ix2 i k) = X (ix2 r k) := by
  refine rd h X (ix2 i k) (ix2 r k) (all2 ?_ ?_)
  · show o + 1 * i.val = r.val; omega
  · show 0 + 1 * k.val = k.val; omega
theorem rdu {e : EltTy} {κ : Kind} {sp : Space} {M : Memref sig κ sp S1024x256 e} (h : M.IsWhole) (X : Vec Ideal S1024x256 e) (o : ℕ)
    {inb : ∀ a, (![o, 0] : Fin 2 → ℕ) a + S256x256.size a ≤ S1024x256.size a} (i j : Fin 256) (r : Fin 1024) (hr : o + i.val = r.val) :
    View.readAt (Elt Ideal) M.view (Rect.unit (s := S1024x256) ![o, 0] S256x256.size inb).toLoadRect (h.unread X) (ix2 i j) = X (ix2 r j) := by
  refine rd h X (ix2 i j) (ix2 r j) (all2 ?_ ?_)
  · show o + 1 * i.val = r.val; omega
  · show 0 + 1 * j.val = j.val; omega
/-- A load of everything. -/
theorem rdw {e : EltTy} {s : Shape} {κ : Kind} {sp : Space} {M : Memref sig κ sp s e} (h : M.IsWhole) (X : s.Idx → Elt Ideal e) {off : Fin s.rank → ℕ}
    {inb : ∀ a, off a + s.size a ≤ s.size a} (h0 : ∀ a, off a = 0) (x : s.Idx) :
    View.readAt (Elt Ideal) M.view (Rect.unit off s.size inb).toLoadRect (h.unread X) x = X x :=
  rd h X x x fun a => by rw [h0 a]; omega
theorem z2 : ∀ a, (![0, 0] : Fin 2 → ℕ) a = 0 := by decide
theorem z3 : ∀ a, (![0, 0, 0] : Fin 3 → ℕ) a = 0 := by decide

/-- What was just written as a whole, read back. -/
theorem rdc {e : EltTy} {s : Shape} {κ : Kind} {sp : Space} (v : View sig κ sp s e) (w : s.Idx → Elt Ideal e) {off : Fin s.rank → ℕ}
    {inb : ∀ a, off a + s.size a ≤ s.size a} (x : s.Idx) :
    v.readCov [(⟨Rect.unit off s.size inb, w⟩ : View.Piece (Elt Ideal) s e)] (Rect.unit off s.size inb).toLoadRect x = w x := by
  rw [View.readCov_eq_canon']
  exact View.canon_cons_emb (Rect.unit off s.size inb) w [] x

/-- A single write of everything. -/
theorem canon_whole {e : EltTy} {s : Shape} (w : s.Idx → Elt Ideal e) {off : Fin s.rank → ℕ}
    {inb : ∀ a, off a + s.size a ≤ s.size a} (h0 : ∀ a, off a = 0) (L : List (View.Piece (Elt Ideal) s e)) (x : s.Idx) :
    View.canon ((⟨Rect.unit off s.size inb, w⟩ : View.Piece (Elt Ideal) s e) :: L) x = w x := by
  have : (Rect.unit off s.size inb).emb x = x := by
    funext a; apply Fin.ext
    show off a + 1 * (x a).val = (x a).val
    rw [h0 a]; omega
  conv_lhs => rw [← this]
  exact View.canon_cons_emb (Rect.unit off s.size inb) w L x

/-- A weight block as a table. -/
def wblk (b : Vec Ideal S1x4096x256 .f32) : Vec Ideal S4096x256 .bf16 := fun x => b (ix3 0 (x 0) (x 1))

/-- A column of a tile with the two rows before it. -/
def col (z : BitVec 1) (p : Vec Ideal S8x256 .f32) (u : Vec Ideal S1024x256 .f32) (j : Fin 256) (n : ℕ) : EReal :=
  if h : n < 2 then (if z = 1#1 then 0 else p (ix2 ⟨6 + n, by omega⟩ j)) else if h2 : n - 2 < 1024 then u (ix2 ⟨n - 2, h2⟩ j) else 0

theorem col_row (z : BitVec 1) (p : Vec Ideal S8x256 .f32) (u : Vec Ideal S1024x256 .f32) (j : Fin 256) (n : ℕ) (r : Fin 1024) (h : n = r.val + 2) :
    col z p u j n = u (ix2 r j) := by
  subst h
  have := r.isLt
  unfold col
  rw [dif_neg (by omega), dif_pos (by omega)]
  rfl

/-- What a point writes of the gated tile. -/
def outAt (z : BitVec 1) (wa wg : Vec Ideal S1x3x256 .f32) (ba bg : Vec Ideal S1x1x256 .f32) (pa pg : Vec Ideal S8x256 .f32) (ua ug : Vec Ideal S1024x256 .f32)
    (r : Fin 1024) (j : Fin 256) : EReal :=
  gateAt (convAt (ba (ix3 0 0 j)) (wa (ix3 0 0 j)) (wa (ix3 0 1 j)) (wa (ix3 0 2 j)) (col z pa ua j r.val) (col z pa ua j (r.val + 1)) (col z pa ua j (r.val + 2)))
    (convAt (bg (ix3 0 0 j)) (wg (ix3 0 0 j)) (wg (ix3 0 1 j)) (wg (ix3 0 2 j)) (col z pg ug j r.val) (col z pg ug j (r.val + 1)) (col z pg ug j (r.val + 2)))

theorem gate_congr {a b c d x y z a' b' c' d' x' y' z' p q r s p' q' r' s' : EReal} (h1 : p = a) (h2 : q = b) (h3 : r = c) (h4 : s = d)
    (g1 : p' = a') (g2 : q' = b') (g3 : r' = c') (g4 : s' = d') :
    gateAt (convAt p q r s x y z) (convAt p' q' r' s' x' y' z') = gateAt (convAt a b c d x y z) (convAt a' b' c' d' x' y' z') := by
  subst h1 h2 h3 h4 g1 g2 g3 g4; rfl

theorem last28 (v : Vec Ideal S256x256 .f32) (a : Fin 8) (j : Fin 256) : k0_pay28 v (ix2 a j) = v (ix2 ⟨248 + a.val, by omega⟩ j) := last_apply v a j
theorem last29 (v : Vec Ideal S256x256 .f32) (a : Fin 8) (j : Fin 256) : k0_pay29 v (ix2 a j) = v (ix2 ⟨248 + a.val, by omega⟩ j) := last_apply v a j
theorem last42 (v : Vec Ideal S256x256 .f32) (a : Fin 8) (j : Fin 256) : k0_pay42 v (ix2 a j) = v (ix2 ⟨248 + a.val, by omega⟩ j) := last_apply v a j
theorem last43 (v : Vec Ideal S256x256 .f32) (a : Fin 8) (j : Fin 256) : k0_pay43 v (ix2 a j) = v (ix2 ⟨248 + a.val, by omega⟩ j) := last_apply v a j
theorem last57 (v : Vec Ideal S256x256 .f32) (a : Fin 8) (j : Fin 256) : k0_pay57 v (ix2 a j) = v (ix2 ⟨248 + a.val, by omega⟩ j) := last_apply v a j
theorem last4 (v : Vec Ideal S256x256 .f32) (a : Fin 8) (j : Fin 256) : k0_pay4 v (ix2 a j) = v (ix2 ⟨248 + a.val, by omega⟩ j) := by
  pointwise [k0_pay4]
theorem last5 (v : Vec Ideal S256x256 .f32) (a : Fin 8) (j : Fin 256) : k0_pay5 v (ix2 a j) = v (ix2 ⟨248 + a.val, by omega⟩ j) := by
  pointwise [k0_pay5]
theorem ua_B (h0 : ¬t.val % 689 = 0) (h1 : ¬t.val % 16 = 0) (r : Fin 1024) (j : Fin 256) :
    (here m c t).2.2.2.2.1 (ix2 r j) = prodAt (iblk m c 0 t) (prev m c t).2.2.1 r j := by
  unfold here
  rw [outsAt0_B m c t h0 h1]
  dsimp only
  unfold sout0_B_2
  rw [View.read_writes_junk_eq_canon]
  unfold kernelRun0_B
  dsimp only
  refine canon_rows (e := .f32) _ _ _ _ _ (prodAt (iblk m c 0 t) (prev m c t).2.2.1) ?_ ?_ ?_ ?_ r j
  all_goals
    intro i j
    refine (mul_apply _ _ i j).trans (Finset.sum_congr rfl fun k _ => ?_)
    refine congrArg₂ (· * ·) ?_ ?_
  · exact rdx _ _ 0 i k _ (Nat.zero_add _)
  · exact rdw _ _ (by exact z2) _
  · exact rdx _ _ 256 i k _ rfl
  · exact rdw _ _ (by exact z2) _
  · exact rdx _ _ 512 i k _ rfl
  · exact rdw _ _ (by exact z2) _
  · exact rdx _ _ 768 i k _ rfl
  · exact rdw _ _ (by exact z2) _

theorem wa_B (h0 : ¬t.val % 689 = 0) (h1 : ¬t.val % 16 = 0) : (here m c t).2.2.1 = (prev m c t).2.2.1 := by
  unfold here
  rw [outsAt0_B m c t h0 h1]
  rfl

theorem ha_B (h0 : ¬t.val % 689 = 0) (h1 : ¬t.val % 16 = 0) (a : Fin 8) (j : Fin 256) :
    (here m c t).2.2.2.2.2.2.1 (ix2 a j) = (prev m c t).2.2.2.2.1 (ix2 ⟨1016 + a.val, by omega⟩ j) := by
  unfold here
  rw [outsAt0_B m c t h0 h1]
  dsimp only
  unfold sout0_B_4
  rw [View.read_writes_junk_eq_canon]
  unfold kernelRun0_B
  dsimp only
  refine (canon_whole _ (by exact z2) _ _).trans ?_
  refine (last4 _ a j).trans ?_
  exact rdu _ _ 768 _ j _ (by show 768 + (248 + a.val) = 1016 + a.val; omega)

theorem ug_B (h0 : ¬t.val % 689 = 0) (h1 : ¬t.val % 16 = 0) (r : Fin 1024) (j : Fin 256) :
    (here m c t).2.2.2.2.2.1 (ix2 r j) = prodAt (iblk m c 0 t) (prev m c t).2.2.2.1 r j := by
  unfold here
  rw [outsAt0_B m c t h0 h1]
  dsimp only
  unfold sout0_B_3
  rw [View.read_writes_junk_eq_canon]
  unfold kernelRun0_B
  dsimp only
  refine canon_rows (e := .f32) _ _ _ _ _ (prodAt (iblk m c 0 t) (prev m c t).2.2.2.1) ?_ ?_ ?_ ?_ r j
  all_goals
    intro i j
    refine (mul_apply _ _ i j).trans (Finset.sum_congr rfl fun k _ => ?_)
    refine congrArg₂ (· * ·) ?_ ?_
  · exact rdx _ _ 0 i k _ (Nat.zero_add _)
  · exact rdw _ _ (by exact z2) _
  · exact rdx _ _ 256 i k _ rfl
  · exact rdw _ _ (by exact z2) _
  · exact rdx _ _ 512 i k _ rfl
  · exact rdw _ _ (by exact z2) _
  · exact rdx _ _ 768 i k _ rfl
  · exact rdw _ _ (by exact z2) _

theorem wg_B (h0 : ¬t.val % 689 = 0) (h1 : ¬t.val % 16 = 0) : (here m c t).2.2.2.1 = (prev m c t).2.2.2.1 := by
  unfold here
  rw [outsAt0_B m c t h0 h1]
  rfl

theorem hg_B (h0 : ¬t.val % 689 = 0) (h1 : ¬t.val % 16 = 0) (a : Fin 8) (j : Fin 256) :
    (here m c t).2.2.2.2.2.2.2 (ix2 a j) = (prev m c t).2.2.2.2.2.1 (ix2 ⟨1016 + a.val, by omega⟩ j) := by
  unfold here
  rw [outsAt0_B m c t h0 h1]
  dsimp only
  unfold sout0_B_5
  rw [View.read_writes_junk_eq_canon]
  unfold kernelRun0_B
  dsimp only
  refine (canon_whole _ (by exact z2) _ _).trans ?_
  refine (last5 _ a j).trans ?_
  exact rdu _ _ 768 _ j _ (by show 768 + (248 + a.val) = 1016 + a.val; omega)

theorem down_B (h0 : ¬t.val % 689 = 0) (h1 : ¬t.val % 16 = 0) (i : Fin 16) (e : Fin 4096) :
    (here m c t).2.1 (ix2 i e) = iblk m c 7 t (ix3 0 i e) := by
  unfold here
  rw [outsAt0_B m c t h0 h1]
  dsimp only
  unfold out0_B_9
  rw [View.read_writes_junk_eq_canon]
  unfold kernelRun0_B
  dsimp only
  refine (canon_whole _ (by exact z2) _ _).trans ?_
  exact (down_apply _ i e).trans (rdw _ _ (by exact z3) _)

theorem out_B (h0 : ¬t.val % 689 = 0) (h1 : ¬t.val % 16 = 0) (r : Fin 1024) (j : Fin 256) :
    (here m c t).1 (ix2 r j) = outAt (starts (kernelRun0_B.sl.v31 (grid0.coords t))) (iblk m c 3 t) (iblk m c 4 t) (iblk m c 5 t) (iblk m c 6 t) (prev m c t).2.2.2.2.2.2.1 (prev m c t).2.2.2.2.2.2.2 (prev m c t).2.2.2.2.1 (prev m c t).2.2.2.2.2.1 r j := by
  unfold here
  rw [outsAt0_B m c t h0 h1]
  dsimp only
  unfold out0_B_8
  rw [View.read_writes_junk_eq_canon]
  unfold kernelRun0_B
  dsimp only
  refine canon_rows (e := .bf16) _ _ _ _ _ (outAt (starts (kernelRun0_B.sl.v31 (grid0.coords t))) (iblk m c 3 t) (iblk m c 4 t) (iblk m c 5 t) (iblk m c 6 t) (prev m c t).2.2.2.2.2.2.1 (prev m c t).2.2.2.2.2.2.2 (prev m c t).2.2.2.2.1 (prev m c t).2.2.2.2.2.1) ?_ ?_ ?_ ?_ r j
  · intro i j
    refine (chunk_apply _ _ _ _ _ _ _ _ (col (starts (kernelRun0_B.sl.v31 (grid0.coords t))) (prev m c t).2.2.2.2.2.2.1 (prev m c t).2.2.2.2.1 j) (col (starts (kernelRun0_B.sl.v31 (grid0.coords t))) (prev m c t).2.2.2.2.2.2.2 (prev m c t).2.2.2.2.2.1 j) i j ?_ ?_ ?_ ?_ ?_ ?_).trans ?_
    · refine (halo_apply _ _ 6 j).trans ?_
      exact if_congr Iff.rfl rfl (rdw _ _ (by exact z2) _)
    · refine (halo_apply _ _ 7 j).trans ?_
      exact if_congr Iff.rfl rfl (rdw _ _ (by exact z2) _)
    · intro r
      refine (rdu _ (prev m c t).2.2.2.2.1 0 _ j ⟨0 + r.val, by omega⟩ rfl).trans ?_
      exact (col_row _ _ _ _ _ ⟨0 + r.val, by omega⟩ (by show (r.val + 2) = 0 + r.val + 2; omega)).symm
    · refine (halo_apply _ _ 6 j).trans ?_
      exact if_congr Iff.rfl rfl (rdw _ _ (by exact z2) _)
    · refine (halo_apply _ _ 7 j).trans ?_
      exact if_congr Iff.rfl rfl (rdw _ _ (by exact z2) _)
    · intro r
      refine (rdu _ (prev m c t).2.2.2.2.2.1 0 _ j ⟨0 + r.val, by omega⟩ rfl).trans ?_
      exact (col_row _ _ _ _ _ ⟨0 + r.val, by omega⟩ (by show (r.val + 2) = 0 + r.val + 2; omega)).symm
    · refine gate_congr ?_ ?_ ?_ ?_ ?_ ?_ ?_ ?_
      · exact (bias_apply _ j).trans (rdw _ _ (by exact z3) _)
      · exact (taps_apply _ 0 j).trans (rdw _ _ (by exact z3) _)
      · exact (taps_apply _ 1 j).trans (rdw _ _ (by exact z3) _)
      · exact (taps_apply _ 2 j).trans (rdw _ _ (by exact z3) _)
      · exact (bias_apply _ j).trans (rdw _ _ (by exact z3) _)
      · exact (taps_apply _ 0 j).trans (rdw _ _ (by exact z3) _)
      · exact (taps_apply _ 1 j).trans (rdw _ _ (by exact z3) _)
      · exact (taps_apply _ 2 j).trans (rdw _ _ (by exact z3) _)
  · intro i j
    refine (congrFun (chunk1 _ _ _ _ _ _ _ _) (ix2 i j)).trans ?_
    refine (chunk_apply _ _ _ _ _ _ _ _ (fun n => col (starts (kernelRun0_B.sl.v31 (grid0.coords t))) (prev m c t).2.2.2.2.2.2.1 (prev m c t).2.2.2.2.1 j (256 + n)) (fun n => col (starts (kernelRun0_B.sl.v31 (grid0.coords t))) (prev m c t).2.2.2.2.2.2.2 (prev m c t).2.2.2.2.2.1 j (256 + n)) i j ?_ ?_ ?_ ?_ ?_ ?_).trans ?_
    · refine (last28 _ 6 j).trans ?_
      refine (rdu _ (prev m c t).2.2.2.2.1 0 _ j ⟨254, by omega⟩ rfl).trans ?_
      exact (col_row _ _ _ _ _ ⟨254, by omega⟩ rfl).symm
    · refine (last28 _ 7 j).trans ?_
      refine (rdu _ (prev m c t).2.2.2.2.1 0 _ j ⟨255, by omega⟩ rfl).trans ?_
      exact (col_row _ _ _ _ _ ⟨255, by omega⟩ rfl).symm
    · intro r
      refine (rdu _ (prev m c t).2.2.2.2.1 256 _ j ⟨256 + r.val, by omega⟩ rfl).trans ?_
      exact (col_row _ _ _ _ _ ⟨256 + r.val, by omega⟩ (by show 256 + (r.val + 2) = 256 + r.val + 2; omega)).symm
    · refine (last29 _ 6 j).trans ?_
      refine (rdu _ (prev m c t).2.2.2.2.2.1 0 _ j ⟨254, by omega⟩ rfl).trans ?_
      exact (col_row _ _ _ _ _ ⟨254, by omega⟩ rfl).symm
    · refine (last29 _ 7 j).trans ?_
      refine (rdu _ (prev m c t).2.2.2.2.2.1 0 _ j ⟨255, by omega⟩ rfl).trans ?_
      exact (col_row _ _ _ _ _ ⟨255, by omega⟩ rfl).symm
    · intro r
      refine (rdu _ (prev m c t).2.2.2.2.2.1 256 _ j ⟨256 + r.val, by omega⟩ rfl).trans ?_
      exact (col_row _ _ _ _ _ ⟨256 + r.val, by omega⟩ (by show 256 + (r.val + 2) = 256 + r.val + 2; omega)).symm
    · refine gate_congr ?_ ?_ ?_ ?_ ?_ ?_ ?_ ?_
      · exact (bias_apply _ j).trans (rdw _ _ (by exact z3) _)
      · exact (taps_apply _ 0 j).trans (rdw _ _ (by exact z3) _)
      · exact (taps_apply _ 1 j).trans (rdw _ _ (by exact z3) _)
      · exact (taps_apply _ 2 j).trans (rdw _ _ (by exact z3) _)
      · exact (bias_apply _ j).trans (rdw _ _ (by exact z3) _)
      · exact (taps_apply _ 0 j).trans (rdw _ _ (by exact z3) _)
      · exact (taps_apply _ 1 j).trans (rdw _ _ (by exact z3) _)
      · exact (taps_apply _ 2 j).trans (rdw _ _ (by exact z3) _)
  · intro i j
    refine (congrFun (chunk2 _ _ _ _ _ _ _ _) (ix2 i j)).trans ?_
    refine (chunk_apply _ _ _ _ _ _ _ _ (fun n => col (starts (kernelRun0_B.sl.v31 (grid0.coords t))) (prev m c t).2.2.2.2.2.2.1 (prev m c t).2.2.2.2.1 j (512 + n)) (fun n => col (starts (kernelRun0_B.sl.v31 (grid0.coords t))) (prev m c t).2.2.2.2.2.2.2 (prev m c t).2.2.2.2.2.1 j (512 + n)) i j ?_ ?_ ?_ ?_ ?_ ?_).trans ?_
    · refine (last42 _ 6 j).trans ?_
      refine (rdu _ (prev m c t).2.2.2.2.1 256 _ j ⟨510, by omega⟩ rfl).trans ?_
      exact (col_row _ _ _ _ _ ⟨510, by omega⟩ rfl).symm
    · refine (last42 _ 7 j).trans ?_
      refine (rdu _ (prev m c t).2.2.2.2.1 256 _ j ⟨511, by omega⟩ rfl).trans ?_
      exact (col_row _ _ _ _ _ ⟨511, by omega⟩ rfl).symm
    · intro r
      refine (rdu _ (prev m c t).2.2.2.2.1 512 _ j ⟨512 + r.val, by omega⟩ rfl).trans ?_
      exact (col_row _ _ _ _ _ ⟨512 + r.val, by omega⟩ (by show 512 + (r.val + 2) = 512 + r.val + 2; omega)).symm
    · refine (last43 _ 6 j).trans ?_
      refine (rdu _ (prev m c t).2.2.2.2.2.1 256 _ j ⟨510, by omega⟩ rfl).trans ?_
      exact (col_row _ _ _ _ _ ⟨510, by omega⟩ rfl).symm
    · refine (last43 _ 7 j).trans ?_
      refine (rdu _ (prev m c t).2.2.2.2.2.1 256 _ j ⟨511, by omega⟩ rfl).trans ?_
      exact (col_row _ _ _ _ _ ⟨511, by omega⟩ rfl).symm
    · intro r
      refine (rdu _ (prev m c t).2.2.2.2.2.1 512 _ j ⟨512 + r.val, by omega⟩ rfl).trans ?_
      exact (col_row _ _ _ _ _ ⟨512 + r.val, by omega⟩ (by show 512 + (r.val + 2) = 512 + r.val + 2; omega)).symm
    · refine gate_congr ?_ ?_ ?_ ?_ ?_ ?_ ?_ ?_
      · exact (bias_apply _ j).trans (rdw _ _ (by exact z3) _)
      · exact (taps_apply _ 0 j).trans (rdw _ _ (by exact z3) _)
      · exact (taps_apply _ 1 j).trans (rdw _ _ (by exact z3) _)
      · exact (taps_apply _ 2 j).trans (rdw _ _ (by exact z3) _)
      · exact (bias_apply _ j).trans (rdw _ _ (by exact z3) _)
      · exact (taps_apply _ 0 j).trans (rdw _ _ (by exact z3) _)
      · exact (taps_apply _ 1 j).trans (rdw _ _ (by exact z3) _)
      · exact (taps_apply _ 2 j).trans (rdw _ _ (by exact z3) _)
  · intro i j
    refine (congrFun (chunk3 _ _ _ _ _ _ _ _) (ix2 i j)).trans ?_
    refine (chunk_apply _ _ _ _ _ _ _ _ (fun n => col (starts (kernelRun0_B.sl.v31 (grid0.coords t))) (prev m c t).2.2.2.2.2.2.1 (prev m c t).2.2.2.2.1 j (768 + n)) (fun n => col (starts (kernelRun0_B.sl.v31 (grid0.coords t))) (prev m c t).2.2.2.2.2.2.2 (prev m c t).2.2.2.2.2.1 j (768 + n)) i j ?_ ?_ ?_ ?_ ?_ ?_).trans ?_
    · refine (last28 _ 6 j).trans ?_
      refine (rdu _ (prev m c t).2.2.2.2.1 512 _ j ⟨766, by omega⟩ rfl).trans ?_
      exact (col_row _ _ _ _ _ ⟨766, by omega⟩ rfl).symm
    · refine (last28 _ 7 j).trans ?_
      refine (rdu _ (prev m c t).2.2.2.2.1 512 _ j ⟨767, by omega⟩ rfl).trans ?_
      exact (col_row _ _ _ _ _ ⟨767, by omega⟩ rfl).symm
    · intro r
      refine (rdu _ (prev m c t).2.2.2.2.1 768 _ j ⟨768 + r.val, by omega⟩ rfl).trans ?_
      exact (col_row _ _ _ _ _ ⟨768 + r.val, by omega⟩ (by show 768 + (r.val + 2) = 768 + r.val + 2; omega)).symm
    · refine (last57 _ 6 j).trans ?_
      refine (rdu _ (prev m c t).2.2.2.2.2.1 512 _ j ⟨766, by omega⟩ rfl).trans ?_
      exact (col_row _ _ _ _ _ ⟨766, by omega⟩ rfl).symm
    · refine (last57 _ 7 j).trans ?_
      refine (rdu _ (prev m c t).2.2.2.2.2.1 512 _ j ⟨767, by omega⟩ rfl).trans ?_
      exact (col_row _ _ _ _ _ ⟨767, by omega⟩ rfl).symm
    · intro r
      refine (rdu _ (prev m c t).2.2.2.2.2.1 768 _ j ⟨768 + r.val, by omega⟩ rfl).trans ?_
      exact (col_row _ _ _ _ _ ⟨768 + r.val, by omega⟩ (by show 768 + (r.val + 2) = 768 + r.val + 2; omega)).symm
    · refine gate_congr ?_ ?_ ?_ ?_ ?_ ?_ ?_ ?_
      · exact (bias_apply _ j).trans (rdw _ _ (by exact z3) _)
      · exact (taps_apply _ 0 j).trans (rdw _ _ (by exact z3) _)
      · exact (taps_apply _ 1 j).trans (rdw _ _ (by exact z3) _)
      · exact (taps_apply _ 2 j).trans (rdw _ _ (by exact z3) _)
      · exact (bias_apply _ j).trans (rdw _ _ (by exact z3) _)
      · exact (taps_apply _ 0 j).trans (rdw _ _ (by exact z3) _)
      · exact (taps_apply _ 1 j).trans (rdw _ _ (by exact z3) _)
      · exact (taps_apply _ 2 j).trans (rdw _ _ (by exact z3) _)

theorem ua_C (h0 : ¬t.val % 689 = 0) (h1 : t.val % 16 = 0) (r : Fin 1024) (j : Fin 256) :
    (here m c t).2.2.2.2.1 (ix2 r j) = prodAt (iblk m c 0 t) (wblk (iblk m c 1 t)) r j := by
  unfold here
  rw [outsAt0_C m c t h0 h1]
  dsimp only
  unfold sout0_C_2
  rw [View.read_writes_junk_eq_canon]
  unfold kernelRun0_C
  dsimp only
  refine canon_rows (e := .f32) _ _ _ _ _ (prodAt (iblk m c 0 t) (wblk (iblk m c 1 t))) ?_ ?_ ?_ ?_ r j
  all_goals
    intro i j
    refine (mul_apply _ _ i j).trans (Finset.sum_congr rfl fun k _ => ?_)
    refine congrArg₂ (· * ·) ?_ ?_
  · exact rdx _ _ 0 i k _ (Nat.zero_add _)
  · exact (rdc _ _ _).trans ((weight_apply _ k j).trans (rdw _ _ (by exact z3) _))
  · exact rdx _ _ 256 i k _ rfl
  · exact (rdc _ _ _).trans ((weight_apply _ k j).trans (rdw _ _ (by exact z3) _))
  · exact rdx _ _ 512 i k _ rfl
  · exact (rdc _ _ _).trans ((weight_apply _ k j).trans (rdw _ _ (by exact z3) _))
  · exact rdx _ _ 768 i k _ rfl
  · exact (rdc _ _ _).trans ((weight_apply _ k j).trans (rdw _ _ (by exact z3) _))

theorem wa_C (h0 : ¬t.val % 689 = 0) (h1 : t.val % 16 = 0) (k : Fin 4096) (j : Fin 256) :
    (here m c t).2.2.1 (ix2 k j) = wblk (iblk m c 1 t) (ix2 k j) := by
  unfold here
  rw [outsAt0_C m c t h0 h1]
  dsimp only
  unfold sout0_C_0
  rw [View.read_writes_junk_eq_canon]
  unfold kernelRun0_C
  dsimp only
  refine (canon_whole _ (by exact z2) _ _).trans ?_
  exact (weight_apply _ k j).trans (rdw _ _ (by exact z3) _)

theorem ha_C (h0 : ¬t.val % 689 = 0) (h1 : t.val % 16 = 0) (a : Fin 8) (j : Fin 256) :
    (here m c t).2.2.2.2.2.2.1 (ix2 a j) = (prev m c t).2.2.2.2.1 (ix2 ⟨1016 + a.val, by omega⟩ j) := by
  unfold here
  rw [outsAt0_C m c t h0 h1]
  dsimp only
  unfold sout0_C_4
  rw [View.read_writes_junk_eq_canon]
  unfold kernelRun0_C
  dsimp only
  refine (canon_whole _ (by exact z2) _ _).trans ?_
  refine (last4 _ a j).trans ?_
  exact rdu _ _ 768 _ j _ (by show 768 + (248 + a.val) = 1016 + a.val; omega)

theorem ug_C (h0 : ¬t.val % 689 = 0) (h1 : t.val % 16 = 0) (r : Fin 1024) (j : Fin 256) :
    (here m c t).2.2.2.2.2.1 (ix2 r j) = prodAt (iblk m c 0 t) (wblk (iblk m c 2 t)) r j := by
  unfold here
  rw [outsAt0_C m c t h0 h1]
  dsimp only
  unfold sout0_C_3
  rw [View.read_writes_junk_eq_canon]
  unfold kernelRun0_C
  dsimp only
  refine canon_rows (e := .f32) _ _ _ _ _ (prodAt (iblk m c 0 t) (wblk (iblk m c 2 t))) ?_ ?_ ?_ ?_ r j
  all_goals
    intro i j
    refine (mul_apply _ _ i j).trans (Finset.sum_congr rfl fun k _ => ?_)
    refine congrArg₂ (· * ·) ?_ ?_
  · exact rdx _ _ 0 i k _ (Nat.zero_add _)
  · exact (rdc _ _ _).trans ((weight_apply _ k j).trans (rdw _ _ (by exact z3) _))
  · exact rdx _ _ 256 i k _ rfl
  · exact (rdc _ _ _).trans ((weight_apply _ k j).trans (rdw _ _ (by exact z3) _))
  · exact rdx _ _ 512 i k _ rfl
  · exact (rdc _ _ _).trans ((weight_apply _ k j).trans (rdw _ _ (by exact z3) _))
  · exact rdx _ _ 768 i k _ rfl
  · exact (rdc _ _ _).trans ((weight_apply _ k j).trans (rdw _ _ (by exact z3) _))

theorem wg_C (h0 : ¬t.val % 689 = 0) (h1 : t.val % 16 = 0) (k : Fin 4096) (j : Fin 256) :
    (here m c t).2.2.2.1 (ix2 k j) = wblk (iblk m c 2 t) (ix2 k j) := by
  unfold here
  rw [outsAt0_C m c t h0 h1]
  dsimp only
  unfold sout0_C_1
  rw [View.read_writes_junk_eq_canon]
  unfold kernelRun0_C
  dsimp only
  refine (canon_whole _ (by exact z2) _ _).trans ?_
  exact (weight_apply _ k j).trans (rdw _ _ (by exact z3) _)

theorem hg_C (h0 : ¬t.val % 689 = 0) (h1 : t.val % 16 = 0) (a : Fin 8) (j : Fin 256) :
    (here m c t).2.2.2.2.2.2.2 (ix2 a j) = (prev m c t).2.2.2.2.2.1 (ix2 ⟨1016 + a.val, by omega⟩ j) := by
  unfold here
  rw [outsAt0_C m c t h0 h1]
  dsimp only
  unfold sout0_C_5
  rw [View.read_writes_junk_eq_canon]
  unfold kernelRun0_C
  dsimp only
  refine (canon_whole _ (by exact z2) _ _).trans ?_
  refine (last5 _ a j).trans ?_
  exact rdu _ _ 768 _ j _ (by show 768 + (248 + a.val) = 1016 + a.val; omega)

theorem down_C (h0 : ¬t.val % 689 = 0) (h1 : t.val % 16 = 0) (i : Fin 16) (e : Fin 4096) :
    (here m c t).2.1 (ix2 i e) = iblk m c 7 t (ix3 0 i e) := by
  unfold here
  rw [outsAt0_C m c t h0 h1]
  dsimp only
  unfold out0_C_9
  rw [View.read_writes_junk_eq_canon]
  unfold kernelRun0_C
  dsimp only
  refine (canon_whole _ (by exact z2) _ _).trans ?_
  exact (down_apply _ i e).trans (rdw _ _ (by exact z3) _)

theorem out_C (h0 : ¬t.val % 689 = 0) (h1 : t.val % 16 = 0) (r : Fin 1024) (j : Fin 256) :
    (here m c t).1 (ix2 r j) = outAt (starts (kernelRun0_C.sl.v31 (grid0.coords t))) (iblk m c 3 t) (iblk m c 4 t) (iblk m c 5 t) (iblk m c 6 t) (prev m c t).2.2.2.2.2.2.1 (prev m c t).2.2.2.2.2.2.2 (prev m c t).2.2.2.2.1 (prev m c t).2.2.2.2.2.1 r j := by
  unfold here
  rw [outsAt0_C m c t h0 h1]
  dsimp only
  unfold out0_C_8
  rw [View.read_writes_junk_eq_canon]
  unfold kernelRun0_C
  dsimp only
  refine canon_rows (e := .bf16) _ _ _ _ _ (outAt (starts (kernelRun0_C.sl.v31 (grid0.coords t))) (iblk m c 3 t) (iblk m c 4 t) (iblk m c 5 t) (iblk m c 6 t) (prev m c t).2.2.2.2.2.2.1 (prev m c t).2.2.2.2.2.2.2 (prev m c t).2.2.2.2.1 (prev m c t).2.2.2.2.2.1) ?_ ?_ ?_ ?_ r j
  · intro i j
    refine (chunk_apply _ _ _ _ _ _ _ _ (col (starts (kernelRun0_C.sl.v31 (grid0.coords t))) (prev m c t).2.2.2.2.2.2.1 (prev m c t).2.2.2.2.1 j) (col (starts (kernelRun0_C.sl.v31 (grid0.coords t))) (prev m c t).2.2.2.2.2.2.2 (prev m c t).2.2.2.2.2.1 j) i j ?_ ?_ ?_ ?_ ?_ ?_).trans ?_
    · refine (halo_apply _ _ 6 j).trans ?_
      exact if_congr Iff.rfl rfl (rdw _ _ (by exact z2) _)
    · refine (halo_apply _ _ 7 j).trans ?_
      exact if_congr Iff.rfl rfl (rdw _ _ (by exact z2) _)
    · intro r
      refine (rdu _ (prev m c t).2.2.2.2.1 0 _ j ⟨0 + r.val, by omega⟩ rfl).trans ?_
      exact (col_row _ _ _ _ _ ⟨0 + r.val, by omega⟩ (by show (r.val + 2) = 0 + r.val + 2; omega)).symm
    · refine (halo_apply _ _ 6 j).trans ?_
      exact if_congr Iff.rfl rfl (rdw _ _ (by exact z2) _)
    · refine (halo_apply _ _ 7 j).trans ?_
      exact if_congr Iff.rfl rfl (rdw _ _ (by exact z2) _)
    · intro r
      refine (rdu _ (prev m c t).2.2.2.2.2.1 0 _ j ⟨0 + r.val, by omega⟩ rfl).trans ?_
      exact (col_row _ _ _ _ _ ⟨0 + r.val, by omega⟩ (by show (r.val + 2) = 0 + r.val + 2; omega)).symm
    · refine gate_congr ?_ ?_ ?_ ?_ ?_ ?_ ?_ ?_
      · exact (bias_apply _ j).trans (rdw _ _ (by exact z3) _)
      · exact (taps_apply _ 0 j).trans (rdw _ _ (by exact z3) _)
      · exact (taps_apply _ 1 j).trans (rdw _ _ (by exact z3) _)
      · exact (taps_apply _ 2 j).trans (rdw _ _ (by exact z3) _)
      · exact (bias_apply _ j).trans (rdw _ _ (by exact z3) _)
      · exact (taps_apply _ 0 j).trans (rdw _ _ (by exact z3) _)
      · exact (taps_apply _ 1 j).trans (rdw _ _ (by exact z3) _)
      · exact (taps_apply _ 2 j).trans (rdw _ _ (by exact z3) _)
  · intro i j
    refine (congrFun (chunk1 _ _ _ _ _ _ _ _) (ix2 i j)).trans ?_
    refine (chunk_apply _ _ _ _ _ _ _ _ (fun n => col (starts (kernelRun0_C.sl.v31 (grid0.coords t))) (prev m c t).2.2.2.2.2.2.1 (prev m c t).2.2.2.2.1 j (256 + n)) (fun n => col (starts (kernelRun0_C.sl.v31 (grid0.coords t))) (prev m c t).2.2.2.2.2.2.2 (prev m c t).2.2.2.2.2.1 j (256 + n)) i j ?_ ?_ ?_ ?_ ?_ ?_).trans ?_
    · refine (last28 _ 6 j).trans ?_
      refine (rdu _ (prev m c t).2.2.2.2.1 0 _ j ⟨254, by omega⟩ rfl).trans ?_
      exact (col_row _ _ _ _ _ ⟨254, by omega⟩ rfl).symm
    · refine (last28 _ 7 j).trans ?_
      refine (rdu _ (prev m c t).2.2.2.2.1 0 _ j ⟨255, by omega⟩ rfl).trans ?_
      exact (col_row _ _ _ _ _ ⟨255, by omega⟩ rfl).symm
    · intro r
      refine (rdu _ (prev m c t).2.2.2.2.1 256 _ j ⟨256 + r.val, by omega⟩ rfl).trans ?_
      exact (col_row _ _ _ _ _ ⟨256 + r.val, by omega⟩ (by show 256 + (r.val + 2) = 256 + r.val + 2; omega)).symm
    · refine (last29 _ 6 j).trans ?_
      refine (rdu _ (prev m c t).2.2.2.2.2.1 0 _ j ⟨254, by omega⟩ rfl).trans ?_
      exact (col_row _ _ _ _ _ ⟨254, by omega⟩ rfl).symm
    · refine (last29 _ 7 j).trans ?_
      refine (rdu _ (prev m c t).2.2.2.2.2.1 0 _ j ⟨255, by omega⟩ rfl).trans ?_
      exact (col_row _ _ _ _ _ ⟨255, by omega⟩ rfl).symm
    · intro r
      refine (rdu _ (prev m c t).2.2.2.2.2.1 256 _ j ⟨256 + r.val, by omega⟩ rfl).trans ?_
      exact (col_row _ _ _ _ _ ⟨256 + r.val, by omega⟩ (by show 256 + (r.val + 2) = 256 + r.val + 2; omega)).symm
    · refine gate_congr ?_ ?_ ?_ ?_ ?_ ?_ ?_ ?_
      · exact (bias_apply _ j).trans (rdw _ _ (by exact z3) _)
      · exact (taps_apply _ 0 j).trans (rdw _ _ (by exact z3) _)
      · exact (taps_apply _ 1 j).trans (rdw _ _ (by exact z3) _)
      · exact (taps_apply _ 2 j).trans (rdw _ _ (by exact z3) _)
      · exact (bias_apply _ j).trans (rdw _ _ (by exact z3) _)
      · exact (taps_apply _ 0 j).trans (rdw _ _ (by exact z3) _)
      · exact (taps_apply _ 1 j).trans (rdw _ _ (by exact z3) _)
      · exact (taps_apply _ 2 j).trans (rdw _ _ (by exact z3) _)
  · intro i j
    refine (congrFun (chunk2 _ _ _ _ _ _ _ _) (ix2 i j)).trans ?_
    refine (chunk_apply _ _ _ _ _ _ _ _ (fun n => col (starts (kernelRun0_C.sl.v31 (grid0.coords t))) (prev m c t).2.2.2.2.2.2.1 (prev m c t).2.2.2.2.1 j (512 + n)) (fun n => col (starts (kernelRun0_C.sl.v31 (grid0.coords t))) (prev m c t).2.2.2.2.2.2.2 (prev m c t).2.2.2.2.2.1 j (512 + n)) i j ?_ ?_ ?_ ?_ ?_ ?_).trans ?_
    · refine (last42 _ 6 j).trans ?_
      refine (rdu _ (prev m c t).2.2.2.2.1 256 _ j ⟨510, by omega⟩ rfl).trans ?_
      exact (col_row _ _ _ _ _ ⟨510, by omega⟩ rfl).symm
    · refine (last42 _ 7 j).trans ?_
      refine (rdu _ (prev m c t).2.2.2.2.1 256 _ j ⟨511, by omega⟩ rfl).trans ?_
      exact (col_row _ _ _ _ _ ⟨511, by omega⟩ rfl).symm
    · intro r
      refine (rdu _ (prev m c t).2.2.2.2.1 512 _ j ⟨512 + r.val, by omega⟩ rfl).trans ?_
      exact (col_row _ _ _ _ _ ⟨512 + r.val, by omega⟩ (by show 512 + (r.val + 2) = 512 + r.val + 2; omega)).symm
    · refine (last43 _ 6 j).trans ?_
      refine (rdu _ (prev m c t).2.2.2.2.2.1 256 _ j ⟨510, by omega⟩ rfl).trans ?_
      exact (col_row _ _ _ _ _ ⟨510, by omega⟩ rfl).symm
    · refine (last43 _ 7 j).trans ?_
      refine (rdu _ (prev m c t).2.2.2.2.2.1 256 _ j ⟨511, by omega⟩ rfl).trans ?_
      exact (col_row _ _ _ _ _ ⟨511, by omega⟩ rfl).symm
    · intro r
      refine (rdu _ (prev m c t).2.2.2.2.2.1 512 _ j ⟨512 + r.val, by omega⟩ rfl).trans ?_
      exact (col_row _ _ _ _ _ ⟨512 + r.val, by omega⟩ (by show 512 + (r.val + 2) = 512 + r.val + 2; omega)).symm
    · refine gate_congr ?_ ?_ ?_ ?_ ?_ ?_ ?_ ?_
      · exact (bias_apply _ j).trans (rdw _ _ (by exact z3) _)
      · exact (taps_apply _ 0 j).trans (rdw _ _ (by exact z3) _)
      · exact (taps_apply _ 1 j).trans (rdw _ _ (by exact z3) _)
      · exact (taps_apply _ 2 j).trans (rdw _ _ (by exact z3) _)
      · exact (bias_apply _ j).trans (rdw _ _ (by exact z3) _)
      · exact (taps_apply _ 0 j).trans (rdw _ _ (by exact z3) _)
      · exact (taps_apply _ 1 j).trans (rdw _ _ (by exact z3) _)
      · exact (taps_apply _ 2 j).trans (rdw _ _ (by exact z3) _)
  · intro i j
    refine (congrFun (chunk3 _ _ _ _ _ _ _ _) (ix2 i j)).trans ?_
    refine (chunk_apply _ _ _ _ _ _ _ _ (fun n => col (starts (kernelRun0_C.sl.v31 (grid0.coords t))) (prev m c t).2.2.2.2.2.2.1 (prev m c t).2.2.2.2.1 j (768 + n)) (fun n => col (starts (kernelRun0_C.sl.v31 (grid0.coords t))) (prev m c t).2.2.2.2.2.2.2 (prev m c t).2.2.2.2.2.1 j (768 + n)) i j ?_ ?_ ?_ ?_ ?_ ?_).trans ?_
    · refine (last28 _ 6 j).trans ?_
      refine (rdu _ (prev m c t).2.2.2.2.1 512 _ j ⟨766, by omega⟩ rfl).trans ?_
      exact (col_row _ _ _ _ _ ⟨766, by omega⟩ rfl).symm
    · refine (last28 _ 7 j).trans ?_
      refine (rdu _ (prev m c t).2.2.2.2.1 512 _ j ⟨767, by omega⟩ rfl).trans ?_
      exact (col_row _ _ _ _ _ ⟨767, by omega⟩ rfl).symm
    · intro r
      refine (rdu _ (prev m c t).2.2.2.2.1 768 _ j ⟨768 + r.val, by omega⟩ rfl).trans ?_
      exact (col_row _ _ _ _ _ ⟨768 + r.val, by omega⟩ (by show 768 + (r.val + 2) = 768 + r.val + 2; omega)).symm
    · refine (last57 _ 6 j).trans ?_
      refine (rdu _ (prev m c t).2.2.2.2.2.1 512 _ j ⟨766, by omega⟩ rfl).trans ?_
      exact (col_row _ _ _ _ _ ⟨766, by omega⟩ rfl).symm
    · refine (last57 _ 7 j).trans ?_
      refine (rdu _ (prev m c t).2.2.2.2.2.1 512 _ j ⟨767, by omega⟩ rfl).trans ?_
      exact (col_row _ _ _ _ _ ⟨767, by omega⟩ rfl).symm
    · intro r
      refine (rdu _ (prev m c t).2.2.2.2.2.1 768 _ j ⟨768 + r.val, by omega⟩ rfl).trans ?_
      exact (col_row _ _ _ _ _ ⟨768 + r.val, by omega⟩ (by show 768 + (r.val + 2) = 768 + r.val + 2; omega)).symm
    · refine gate_congr ?_ ?_ ?_ ?_ ?_ ?_ ?_ ?_
      · exact (bias_apply _ j).trans (rdw _ _ (by exact z3) _)
      · exact (taps_apply _ 0 j).trans (rdw _ _ (by exact z3) _)
      · exact (taps_apply _ 1 j).trans (rdw _ _ (by exact z3) _)
      · exact (taps_apply _ 2 j).trans (rdw _ _ (by exact z3) _)
      · exact (bias_apply _ j).trans (rdw _ _ (by exact z3) _)
      · exact (taps_apply _ 0 j).trans (rdw _ _ (by exact z3) _)
      · exact (taps_apply _ 1 j).trans (rdw _ _ (by exact z3) _)
      · exact (taps_apply _ 2 j).trans (rdw _ _ (by exact z3) _)

theorem ua_A (h0 : t.val % 689 = 0) (h1 : t.val % 16 = 0) (r : Fin 1024) (j : Fin 256) :
    (here m c t).2.2.2.2.1 (ix2 r j) = prodAt (iblk m c 0 t) (wblk (iblk m c 1 t)) r j := by
  unfold here
  rw [outsAt0_A m c t h0 h1]
  dsimp only
  unfold sout0_A_2
  rw [View.read_writes_junk_eq_canon]
  unfold kernelRun0_A
  dsimp only
  refine canon_rows (e := .f32) _ _ _ _ _ (prodAt (iblk m c 0 t) (wblk (iblk m c 1 t))) ?_ ?_ ?_ ?_ r j
  all_goals
    intro i j
    refine (mul_apply _ _ i j).trans (Finset.sum_congr rfl fun k _ => ?_)
    refine congrArg₂ (· * ·) ?_ ?_
  · exact rdx _ _ 0 i k _ (Nat.zero_add _)
  · exact (rdc _ _ _).trans ((weight_apply _ k j).trans (rdw _ _ (by exact z3) _))
  · exact rdx _ _ 256 i k _ rfl
  · exact (rdc _ _ _).trans ((weight_apply _ k j).trans (rdw _ _ (by exact z3) _))
  · exact rdx _ _ 512 i k _ rfl
  · exact (rdc _ _ _).trans ((weight_apply _ k j).trans (rdw _ _ (by exact z3) _))
  · exact rdx _ _ 768 i k _ rfl
  · exact (rdc _ _ _).trans ((weight_apply _ k j).trans (rdw _ _ (by exact z3) _))

theorem wa_A (h0 : t.val % 689 = 0) (h1 : t.val % 16 = 0) (k : Fin 4096) (j : Fin 256) :
    (here m c t).2.2.1 (ix2 k j) = wblk (iblk m c 1 t) (ix2 k j) := by
  unfold here
  rw [outsAt0_A m c t h0 h1]
  dsimp only
  unfold sout0_A_0
  rw [View.read_writes_junk_eq_canon]
  unfold kernelRun0_A
  dsimp only
  refine (canon_whole _ (by exact z2) _ _).trans ?_
  exact (weight_apply _ k j).trans (rdw _ _ (by exact z3) _)

theorem ug_A (h0 : t.val % 689 = 0) (h1 : t.val % 16 = 0) (r : Fin 1024) (j : Fin 256) :
    (here m c t).2.2.2.2.2.1 (ix2 r j) = prodAt (iblk m c 0 t) (wblk (iblk m c 2 t)) r j := by
  unfold here
  rw [outsAt0_A m c t h0 h1]
  dsimp only
  unfold sout0_A_3
  rw [View.read_writes_junk_eq_canon]
  unfold kernelRun0_A
  dsimp only
  refine canon_rows (e := .f32) _ _ _ _ _ (prodAt (iblk m c 0 t) (wblk (iblk m c 2 t))) ?_ ?_ ?_ ?_ r j
  all_goals
    intro i j
    refine (mul_apply _ _ i j).trans (Finset.sum_congr rfl fun k _ => ?_)
    refine congrArg₂ (· * ·) ?_ ?_
  · exact rdx _ _ 0 i k _ (Nat.zero_add _)
  · exact (rdc _ _ _).trans ((weight_apply _ k j).trans (rdw _ _ (by exact z3) _))
  · exact rdx _ _ 256 i k _ rfl
  · exact (rdc _ _ _).trans ((weight_apply _ k j).trans (rdw _ _ (by exact z3) _))
  · exact rdx _ _ 512 i k _ rfl
  · exact (rdc _ _ _).trans ((weight_apply _ k j).trans (rdw _ _ (by exact z3) _))
  · exact rdx _ _ 768 i k _ rfl
  · exact (rdc _ _ _).trans ((weight_apply _ k j).trans (rdw _ _ (by exact z3) _))

theorem wg_A (h0 : t.val % 689 = 0) (h1 : t.val % 16 = 0) (k : Fin 4096) (j : Fin 256) :
    (here m c t).2.2.2.1 (ix2 k j) = wblk (iblk m c 2 t) (ix2 k j) := by
  unfold here
  rw [outsAt0_A m c t h0 h1]
  dsimp only
  unfold sout0_A_1
  rw [View.read_writes_junk_eq_canon]
  unfold kernelRun0_A
  dsimp only
  refine (canon_whole _ (by exact z2) _ _).trans ?_
  exact (weight_apply _ k j).trans (rdw _ _ (by exact z3) _)

theorem down_A (h0 : t.val % 689 = 0) (h1 : t.val % 16 = 0) (i : Fin 16) (e : Fin 4096) :
    (here m c t).2.1 (ix2 i e) = iblk m c 7 t (ix3 0 i e) := by
  unfold here
  rw [outsAt0_A m c t h0 h1]
  dsimp only
  unfold out0_A_9
  rw [View.read_writes_junk_eq_canon]
  unfold kernelRun0_A
  dsimp only
  refine (canon_whole _ (by exact z2) _ _).trans ?_
  exact (down_apply _ i e).trans (rdw _ _ (by exact z3) _)

end Cert.Kernel2Ideal.Up

end
-- ==== Proof.UpBlocks.lean ====
module

public import proofs.«01_k».proof.Proof.Up

/-! The up part of the ConvFFN: the blocks of a grid point. -/

@[expose] public section

set_option maxRecDepth 100000

noncomputable section

namespace Cert.Kernel2Ideal.Up

open Idealize.ShloMosaic Idealize.ShloMosaic.TcCoe Idealize.SL.Sem Cert.Kernel2Ideal Cert.Kernel2Ideal.Gen

/-- The tile whose product a point takes. -/
abbrev cur (n : ℕ) : ℕ := min n 687
/-- The tile whose gate a point writes. -/
abbrev prv (n : ℕ) : ℕ := max n 1 - 1
/-- The only coordinate, as a place of the grid. -/
abbrev pt (x : Fin 689) : grid0.Coords := fun a => match a with | ⟨0, _⟩ => x

theorem map0 : ∀ x : Fin 689, cc0_transform_0 (pt x) 0 = cur x.val % 16 ∧ cc0_transform_0 (pt x) 1 = 0 := by decide +kernel
theorem map1 : ∀ x : Fin 689, cc0_transform_1 (pt x) 0 = 0 ∧ cc0_transform_1 (pt x) 1 = 0 ∧ cc0_transform_1 (pt x) 2 = cur x.val / 16 := by decide +kernel
theorem map2 : ∀ x : Fin 689, cc0_transform_2 (pt x) 0 = 0 ∧ cc0_transform_2 (pt x) 1 = 0 ∧ cc0_transform_2 (pt x) 2 = 43 + cur x.val / 16 := by decide +kernel
theorem map3 : ∀ x : Fin 689, cc0_transform_3 (pt x) 0 = 0 ∧ cc0_transform_3 (pt x) 1 = 0 ∧ cc0_transform_3 (pt x) 2 = prv x.val / 16 := by decide +kernel
theorem map4 : ∀ x : Fin 689, cc0_transform_4 (pt x) 0 = 0 ∧ cc0_transform_4 (pt x) 1 = 0 ∧ cc0_transform_4 (pt x) 2 = 43 + prv x.val / 16 := by decide +kernel
theorem map5 : ∀ x : Fin 689, cc0_transform_5 (pt x) 0 = 0 ∧ cc0_transform_5 (pt x) 1 = 0 ∧ cc0_transform_5 (pt x) 2 = prv x.val / 16 := by decide +kernel
theorem map6 : ∀ x : Fin 689, cc0_transform_6 (pt x) 0 = 0 ∧ cc0_transform_6 (pt x) 1 = 0 ∧ cc0_transform_6 (pt x) 2 = 43 + prv x.val / 16 := by decide +kernel
theorem map7 : ∀ x : Fin 689, cc0_transform_7 (pt x) 0 = 0 ∧ cc0_transform_7 (pt x) 1 = cur x.val ∧ cc0_transform_7 (pt x) 2 = 0 := by decide +kernel
theorem map8 : ∀ x : Fin 689, cc0_transform_8 (pt x) 0 = prv x.val % 16 ∧ cc0_transform_8 (pt x) 1 = prv x.val / 16 := by decide +kernel
theorem map9 : ∀ x : Fin 689, cc0_transform_9 (pt x) 0 = cur x.val ∧ cc0_transform_9 (pt x) 1 = 0 := by decide +kernel

theorem starts_B : ∀ x : Fin 689, (starts (kernelRun0_B.sl.v31 (pt x)) = 1#1) = (prv x.val % 8 = 0) := by
  intro x; apply propext; revert x; decide +kernel

variable (t : Fin cfg0.N)
theorem lt_n : t.val < 689 := Nat.lt_of_lt_of_eq t.isLt N_0
theorem coords_pt : grid0.coords t = pt ⟨t.val, lt_n t⟩ := by
  have h := lt_n t
  have e : (grid0.coords t 0).val = t.val / 1 % 689 := Pipeline.Grid.coords_val t 0 (by decide) rfl
  funext a
  match a with
  | ⟨0, _⟩ => apply Fin.ext; show (grid0.coords t 0).val = t.val; omega

end Cert.Kernel2Ideal.Up

end
-- ==== Proof.UpInv.lean ====
module

public import proofs.«01_k».proof.Proof.UpBlocks
public import Idealize.ShloMosaic.Lib.Pointwise
public import Idealize.ShloMosaic.Lib.StableHlo.ReadAt

/-! The up part of the ConvFFN: what the carried buffers and the results hold after each grid point. -/

@[expose] public section

noncomputable section

namespace Cert.Kernel2Ideal.Up

open Idealize.ShloMosaic Idealize.ShloMosaic.TcCoe Idealize.SL.Sem Cert.Kernel2Ideal Cert.Kernel2Ideal.Gen

variable (m : (ℓ : Loc nD τ sig) → Buf (Elt Ideal) ℓ) (c : Dev nD)

abbrev A0 : Vec Ideal S2x8192x4096 .f32 := m ((c : Thread nD τ).loc main_arg0)
abbrev A1 : Vec Ideal S2x4096x22016 .f32 := m ((c : Thread nD τ).loc main_arg1)
abbrev A2 : Vec Ideal S2x3x22016 .f32 := m ((c : Thread nD τ).loc main_arg2)
abbrev A3 : Vec Ideal S2x22016 .f32 := m ((c : Thread nD τ).loc main_arg3)
abbrev A4 : Vec Ideal S2x11008x4096 .f32 := m ((c : Thread nD τ).loc main_arg4)

theorem v1_apply (b : Fin 2) (s : Fin 8192) (r : Fin 16384) (hr : r.val = 8192 * b.val + s.val) (e : Fin 4096) :
    V m c main_v1 (ix2 r e) = A0 m c (ix3 b s e) := by
  have h1 : r.val / 8192 = b.val := by omega
  have h2 : r.val % 8192 = s.val := by omega
  unfold V
  after_reads_at
  simp only [h1, h2]
theorem v2_apply (b : Fin 2) (e : Fin 22016) : V m c main_v2 (ix3 b 0 e) = A3 m c (ix2 b e) := by
  unfold V
  after_reads_at

/-- The product of the input's row and the first layer's column. -/
def U (r e : ℕ) : EReal :=
  if h : r < 16384 ∧ e < 22016 then ∑ k : Fin 4096, HMul.hMul (α := EReal) (β := EReal) (γ := EReal) (V m c main_v1 (ix2 ⟨r, h.1⟩ k)) (A1 m c (ix3 0 k ⟨e, h.2⟩)) else 0

section Blocks
variable (t : Fin cfg0.N)

theorem blk0 (i : Fin 1024) (k : Fin 4096) (r : Fin 16384) (hr : r.val = 1024 * (cur t.val % 16) + i.val) :
    iblk m c 0 t (ix2 i k) = V m c main_v1 (ix2 r k) := by
  have M := map0 ⟨t.val, lt_n t⟩
  rw [← coords_pt t] at M
  dsimp only at M
  obtain ⟨e0, e1⟩ := M
  show V m c main_v1 (((cfg0.win 0).blk t).view.emb (ix2 i k)) = _
  congr 1; funext q; apply Fin.ext
  match q with
  | ⟨0, _⟩ => show cc0_transform_0 (grid0.coords t) 0 * 1024 + 1 * i.val = r.val; omega
  | ⟨1, _⟩ => show cc0_transform_0 (grid0.coords t) 1 * 4096 + 1 * k.val = k.val; omega
theorem blk1 (k : Fin 4096) (j : Fin 256) (e : Fin 22016) (he : e.val = 0 + 256 * (cur t.val / 16) + j.val) :
    iblk m c 1 t (ix3 0 k j) = A1 m c (ix3 0 k e) := by
  have M := map1 ⟨t.val, lt_n t⟩
  rw [← coords_pt t] at M
  dsimp only at M
  obtain ⟨e0, e1, e2⟩ := M
  show A1 m c (((cfg0.win 1).blk t).view.emb (ix3 0 k j)) = _
  congr 1; funext q; apply Fin.ext
  match q with
  | ⟨0, _⟩ => show cc0_transform_1 (grid0.coords t) 0 * 1 + 1 * 0 = 0; omega
  | ⟨1, _⟩ => show cc0_transform_1 (grid0.coords t) 1 * 4096 + 1 * k.val = k.val; omega
  | ⟨2, _⟩ => show cc0_transform_1 (grid0.coords t) 2 * 256 + 1 * j.val = e.val; omega
theorem blk2 (k : Fin 4096) (j : Fin 256) (e : Fin 22016) (he : e.val = 11008 + 256 * (cur t.val / 16) + j.val) :
    iblk m c 2 t (ix3 0 k j) = A1 m c (ix3 0 k e) := by
  have M := map2 ⟨t.val, lt_n t⟩
  rw [← coords_pt t] at M
  dsimp only at M
  obtain ⟨e0, e1, e2⟩ := M
  show A1 m c (((cfg0.win 2).blk t).view.emb (ix3 0 k j)) = _
  congr 1; funext q; apply Fin.ext
  match q with
  | ⟨0, _⟩ => show cc0_transform_2 (grid0.coords t) 0 * 1 + 1 * 0 = 0; omega
  | ⟨1, _⟩ => show cc0_transform_2 (grid0.coords t) 1 * 4096 + 1 * k.val = k.val; omega
  | ⟨2, _⟩ => show cc0_transform_2 (grid0.coords t) 2 * 256 + 1 * j.val = e.val; omega
theorem blk3 (a : Fin 3) (j : Fin 256) (e : Fin 22016) (he : e.val = 0 + 256 * (prv t.val / 16) + j.val) :
    iblk m c 3 t (ix3 0 a j) = A2 m c (ix3 0 a e) := by
  have M := map3 ⟨t.val, lt_n t⟩
  rw [← coords_pt t] at M
  dsimp only at M
  obtain ⟨e0, e1, e2⟩ := M
  show A2 m c (((cfg0.win 3).blk t).view.emb (ix3 0 a j)) = _
  congr 1; funext q; apply Fin.ext
  match q with
  | ⟨0, _⟩ => show cc0_transform_3 (grid0.coords t) 0 * 1 + 1 * 0 = 0; omega
  | ⟨1, _⟩ => show cc0_transform_3 (grid0.coords t) 1 * 3 + 1 * a.val = a.val; omega
  | ⟨2, _⟩ => show cc0_transform_3 (grid0.coords t) 2 * 256 + 1 * j.val = e.val; omega
theorem blk4 (a : Fin 3) (j : Fin 256) (e : Fin 22016) (he : e.val = 11008 + 256 * (prv t.val / 16) + j.val) :
    iblk m c 4 t (ix3 0 a j) = A2 m c (ix3 0 a e) := by
  have M := map4 ⟨t.val, lt_n t⟩
  rw [← coords_pt t] at M
  dsimp only at M
  obtain ⟨e0, e1, e2⟩ := M
  show A2 m c (((cfg0.win 4).blk t).view.emb (ix3 0 a j)) = _
  congr 1; funext q; apply Fin.ext
  match q with
  | ⟨0, _⟩ => show cc0_transform_4 (grid0.coords t) 0 * 1 + 1 * 0 = 0; omega
  | ⟨1, _⟩ => show cc0_transform_4 (grid0.coords t) 1 * 3 + 1 * a.val = a.val; omega
  | ⟨2, _⟩ => show cc0_transform_4 (grid0.coords t) 2 * 256 + 1 * j.val = e.val; omega
theorem blk5 (j : Fin 256) (e : Fin 22016) (he : e.val = 0 + 256 * (prv t.val / 16) + j.val) :
    iblk m c 5 t (ix3 0 0 j) = V m c main_v2 (ix3 0 0 e) := by
  have M := map5 ⟨t.val, lt_n t⟩
  rw [← coords_pt t] at M
  dsimp only at M
  obtain ⟨e0, e1, e2⟩ := M
  show V m c main_v2 (((cfg0.win 5).blk t).view.emb (ix3 0 0 j)) = _
  congr 1; funext q; apply Fin.ext
  match q with
  | ⟨0, _⟩ => show cc0_transform_5 (grid0.coords t) 0 * 1 + 1 * 0 = 0; omega
  | ⟨1, _⟩ => show cc0_transform_5 (grid0.coords t) 1 * 1 + 1 * 0 = 0; omega
  | ⟨2, _⟩ => show cc0_transform_5 (grid0.coords t) 2 * 256 + 1 * j.val = e.val; omega
theorem blk6 (j : Fin 256) (e : Fin 22016) (he : e.val = 11008 + 256 * (prv t.val / 16) + j.val) :
    iblk m c 6 t (ix3 0 0 j) = V m c main_v2 (ix3 0 0 e) := by
  have M := map6 ⟨t.val, lt_n t⟩
  rw [← coords_pt t] at M
  dsimp only at M
  obtain ⟨e0, e1, e2⟩ := M
  show V m c main_v2 (((cfg0.win 6).blk t).view.emb (ix3 0 0 j)) = _
  congr 1; funext q; apply Fin.ext
  match q with
  | ⟨0, _⟩ => show cc0_transform_6 (grid0.coords t) 0 * 1 + 1 * 0 = 0; omega
  | ⟨1, _⟩ => show cc0_transform_6 (grid0.coords t) 1 * 1 + 1 * 0 = 0; omega
  | ⟨2, _⟩ => show cc0_transform_6 (grid0.coords t) 2 * 256 + 1 * j.val = e.val; omega
theorem blk7 (i : Fin 16) (e : Fin 4096) (r : Fin 11008) (hr : r.val = 16 * cur t.val + i.val) :
    iblk m c 7 t (ix3 0 i e) = A4 m c (ix3 0 r e) := by
  have M := map7 ⟨t.val, lt_n t⟩
  rw [← coords_pt t] at M
  dsimp only at M
  obtain ⟨e0, e1, e2⟩ := M
  show A4 m c (((cfg0.win 7).blk t).view.emb (ix3 0 i e)) = _
  congr 1; funext q; apply Fin.ext
  match q with
  | ⟨0, _⟩ => show cc0_transform_7 (grid0.coords t) 0 * 1 + 1 * 0 = 0; omega
  | ⟨1, _⟩ => show cc0_transform_7 (grid0.coords t) 1 * 16 + 1 * i.val = r.val; omega
  | ⟨2, _⟩ => show cc0_transform_7 (grid0.coords t) 2 * 4096 + 1 * e.val = e.val; omega
theorem emb8 (i : Fin 1024) (j : Fin 256) (r : Fin 16384) (e : Fin 11008) (hr : r.val = 1024 * (prv t.val % 16) + i.val) (he : e.val = 256 * (prv t.val / 16) + j.val) :
    ((cfg0.win 8).blk t).view.emb (ix2 i j) = (ix2 r e : S16384x11008.Idx) := by
  have M := map8 ⟨t.val, lt_n t⟩
  rw [← coords_pt t] at M
  dsimp only at M
  obtain ⟨e0, e1⟩ := M
  funext a; apply Fin.ext
  match a with
  | ⟨0, _⟩ => show cc0_transform_8 (grid0.coords t) 0 * 1024 + 1 * i.val = r.val; omega
  | ⟨1, _⟩ => show cc0_transform_8 (grid0.coords t) 1 * 256 + 1 * j.val = e.val; omega
theorem emb9 (i : Fin 16) (j : Fin 4096) (r : Fin 11008) (e : Fin 4096) (hr : r.val = 16 * cur t.val + i.val) (he : e.val = j.val) :
    ((cfg0.win 9).blk t).view.emb (ix2 i j) = (ix2 r e : S11008x4096.Idx) := by
  have M := map9 ⟨t.val, lt_n t⟩
  rw [← coords_pt t] at M
  dsimp only at M
  obtain ⟨e0, e1⟩ := M
  funext a; apply Fin.ext
  match a with
  | ⟨0, _⟩ => show cc0_transform_9 (grid0.coords t) 0 * 16 + 1 * i.val = r.val; omega
  | ⟨1, _⟩ => show cc0_transform_9 (grid0.coords t) 1 * 4096 + 1 * j.val = e.val; omega

/-- A product with the right table is the right product. -/
theorem prod_U (W : Vec Ideal S4096x256 .bf16) (i : Fin 1024) (j : Fin 256) (e : Fin 22016) (hW : ∀ k : Fin 4096, W (ix2 k j) = A1 m c (ix3 0 k e)) :
    prodAt (iblk m c 0 t) W i j = U m c (1024 * (cur t.val % 16) + i.val) e.val := by
  have h : 1024 * (cur t.val % 16) + i.val < 16384 := by have := i.isLt; omega
  unfold prodAt U
  rw [dif_pos ⟨h, e.isLt⟩]
  refine Finset.sum_congr rfl fun k _ => ?_
  exact congrArg₂ (fun x y : EReal => x * y) (blk0 m c t i k ⟨_, h⟩ rfl) (hW k)
end Blocks

/-- What the carried buffers hold after a grid point whose product is new. -/
def Inv (n : ℕ) (hn : n < cfg0.N) : Prop :=
  (∀ (k : Fin 4096) (j : Fin 256) (e : Fin 22016), e.val = 0 + 256 * (n / 16) + j.val → (outsAt0 (F := Ideal) m c n hn).2.2.1 (ix2 k j) = A1 m c (ix3 0 k e))
  ∧ (∀ (k : Fin 4096) (j : Fin 256) (e : Fin 22016), e.val = 11008 + 256 * (n / 16) + j.val → (outsAt0 (F := Ideal) m c n hn).2.2.2.1 (ix2 k j) = A1 m c (ix3 0 k e))
  ∧ (∀ (i : Fin 1024) (j : Fin 256), (outsAt0 (F := Ideal) m c n hn).2.2.2.2.1 (ix2 i j) = U m c (1024 * (n % 16) + i.val) (0 + 256 * (n / 16) + j.val))
  ∧ (∀ (i : Fin 1024) (j : Fin 256), (outsAt0 (F := Ideal) m c n hn).2.2.2.2.2.1 (ix2 i j) = U m c (1024 * (n % 16) + i.val) (11008 + 256 * (n / 16) + j.val))
  ∧ (n % 8 ≠ 0 → ∀ (a : Fin 8) (j : Fin 256), (outsAt0 (F := Ideal) m c n hn).2.2.2.2.2.2.1 (ix2 a j) = U m c (1024 * (n % 16) - 8 + a.val) (0 + 256 * (n / 16) + j.val))
  ∧ (n % 8 ≠ 0 → ∀ (a : Fin 8) (j : Fin 256), (outsAt0 (F := Ideal) m c n hn).2.2.2.2.2.2.2 (ix2 a j) = U m c (1024 * (n % 16) - 8 + a.val) (11008 + 256 * (n / 16) + j.val))

/-- At a point that takes new weights. -/
theorem inv_fresh (t : Fin cfg0.N) (hle : t.val ≤ 687) (h1 : t.val % 16 = 0)
    (wa : ∀ (k : Fin 4096) (j : Fin 256), (here m c t).2.2.1 (ix2 k j) = wblk (iblk m c 1 t) (ix2 k j))
    (wg : ∀ (k : Fin 4096) (j : Fin 256), (here m c t).2.2.2.1 (ix2 k j) = wblk (iblk m c 2 t) (ix2 k j))
    (ua : ∀ (r : Fin 1024) (j : Fin 256), (here m c t).2.2.2.2.1 (ix2 r j) = prodAt (iblk m c 0 t) (wblk (iblk m c 1 t)) r j)
    (ug : ∀ (r : Fin 1024) (j : Fin 256), (here m c t).2.2.2.2.2.1 (ix2 r j) = prodAt (iblk m c 0 t) (wblk (iblk m c 2 t)) r j) :
    Inv m c t.val t.isLt := by
  have hc : cur t.val = t.val := Nat.min_eq_left hle
  have b1 : ∀ (k : Fin 4096) (j : Fin 256) (e : Fin 22016), e.val = 0 + 256 * (t.val / 16) + j.val → wblk (iblk m c 1 t) (ix2 k j) = A1 m c (ix3 0 k e) :=
    fun k j e he => blk1 m c t k j e (by rw [hc]; exact he)
  have b2 : ∀ (k : Fin 4096) (j : Fin 256) (e : Fin 22016), e.val = 11008 + 256 * (t.val / 16) + j.val → wblk (iblk m c 2 t) (ix2 k j) = A1 m c (ix3 0 k e) :=
    fun k j e he => blk2 m c t k j e (by rw [hc]; exact he)
  refine ⟨fun k j e he => (wa k j).trans (b1 k j e he), fun k j e he => (wg k j).trans (b2 k j e he), fun i j => ?_, fun i j => ?_,
    fun h => absurd (by omega) h, fun h => absurd (by omega) h⟩
  · have hj := j.isLt
    refine (ua i j).trans ((prod_U m c t _ i j ⟨0 + 256 * (t.val / 16) + j.val, by omega⟩ fun k => b1 k j _ rfl).trans ?_)
    rw [hc]
  · have hj := j.isLt
    refine (ug i j).trans ((prod_U m c t _ i j ⟨11008 + 256 * (t.val / 16) + j.val, by omega⟩ fun k => b2 k j _ rfl).trans ?_)
    rw [hc]

theorem inv (n : ℕ) (hn : n < cfg0.N) (hle : n ≤ 687) : Inv m c n hn := by
  induction n with
  | zero => exact inv_fresh m c ⟨0, hn⟩ hle rfl (wa_A m c ⟨0, hn⟩ rfl rfl) (wg_A m c ⟨0, hn⟩ rfl rfl) (ua_A m c ⟨0, hn⟩ rfl rfl) (ug_A m c ⟨0, hn⟩ rfl rfl)
  | succ n ih =>
    have h0 : ¬(n + 1) % 689 = 0 := by omega
    by_cases h1 : (n + 1) % 16 = 0
    · exact inv_fresh m c ⟨n + 1, hn⟩ hle h1 (wa_C m c ⟨n + 1, hn⟩ h0 h1) (wg_C m c ⟨n + 1, hn⟩ h0 h1) (ua_C m c ⟨n + 1, hn⟩ h0 h1) (ug_C m c ⟨n + 1, hn⟩ h0 h1)
    · obtain ⟨pwa, pwg, pua, pug, -, -⟩ := ih (by omega) (by omega)
      have hd : (n + 1) / 16 = n / 16 := by omega
      have hm : (n + 1) % 16 = n % 16 + 1 := by omega
      have hc : cur (n + 1) = n + 1 := Nat.min_eq_left hle
      unfold Inv
      rw [hd]
      refine ⟨fun k j e he => ?_, fun k j e he => ?_, fun i j => ?_, fun i j => ?_, fun _ a j => ?_, fun _ a j => ?_⟩
      · exact (congrFun (wa_B m c ⟨n + 1, hn⟩ h0 h1) _).trans (pwa k j e he)
      · exact (congrFun (wg_B m c ⟨n + 1, hn⟩ h0 h1) _).trans (pwg k j e he)
      · have hj := j.isLt
        refine (ua_B m c ⟨n + 1, hn⟩ h0 h1 i j).trans ((prod_U m c ⟨n + 1, hn⟩ _ i j ⟨0 + 256 * (n / 16) + j.val, by omega⟩ fun k => pwa k j _ rfl).trans ?_)
        show U m c (1024 * (cur (n + 1) % 16) + i.val) _ = _
        rw [hc]
      · have hj := j.isLt
        refine (ug_B m c ⟨n + 1, hn⟩ h0 h1 i j).trans ((prod_U m c ⟨n + 1, hn⟩ _ i j ⟨11008 + 256 * (n / 16) + j.val, by omega⟩ fun k => pwg k j _ rfl).trans ?_)
        show U m c (1024 * (cur (n + 1) % 16) + i.val) _ = _
        rw [hc]
      · refine (ha_B m c ⟨n + 1, hn⟩ h0 h1 a j).trans ((pua _ j).trans ?_)
        refine congrArg (fun q => U m c q _) ?_
        show 1024 * (n % 16) + (1016 + a.val) = 1024 * ((n + 1) % 16) - 8 + a.val
        omega
      · refine (hg_B m c ⟨n + 1, hn⟩ h0 h1 a j).trans ((pug _ j).trans ?_)
        refine congrArg (fun q => U m c q _) ?_
        show 1024 * (n % 16) + (1016 + a.val) = 1024 * ((n + 1) % 16) - 8 + a.val
        omega

/-- A column of the product with two rows of zeros before each sequence. -/
def padded (g q e : ℕ) : EReal := if g % 8192 + q < 2 then 0 else U m c (g + q - 2) e

/-- The column the body reads is that one. -/
theorem col_padded (z : BitVec 1) (p n e : ℕ) (hz : z = 1#1 ↔ p % 8 = 0) (hal : Vec Ideal S8x256 .f32) (u : Vec Ideal S1024x256 .f32) (j : Fin 256)
    (hu : ∀ i : Fin 1024, u (ix2 i j) = U m c (1024 * (p % 16) + i.val) e)
    (hh : p % 8 ≠ 0 → ∀ a : Fin 8, hal (ix2 a j) = U m c (1024 * (p % 16) - 8 + a.val) e) (r q : ℕ) (hn : n = r + q) (hr : r < 1024) (hq : q ≤ 2) :
    col z hal u j n = padded m c (1024 * (p % 16) + r) q e := by
  subst hn
  unfold padded
  by_cases h : r + q < 2
  · unfold col
    rw [dif_pos h]
    by_cases h8 : p % 8 = 0
    · rw [if_pos (hz.mpr h8), if_pos (by omega)]
    · rw [if_neg (fun k => h8 (hz.mp k)), if_neg (by omega), hh h8]
      refine congrArg (fun x => U m c x e) ?_
      show 1024 * (p % 16) - 8 + (6 + (r + q)) = 1024 * (p % 16) + r + q - 2
      omega
  · rw [col_row z hal u j (r + q) ⟨r + q - 2, by omega⟩ (by show r + q = r + q - 2 + 2; omega), hu, if_neg (by omega)]
    refine congrArg (fun x => U m c x e) ?_
    show 1024 * (p % 16) + (r + q - 2) = 1024 * (p % 16) + r + q - 2
    omega

/-- One element of the gated result. -/
def gated (g : ℕ) (e e' : Fin 22016) : EReal :=
  gateAt (convAt (A3 m c (ix2 0 e)) (A2 m c (ix3 0 0 e)) (A2 m c (ix3 0 1 e)) (A2 m c (ix3 0 2 e)) (padded m c g 0 e.val) (padded m c g 1 e.val) (padded m c g 2 e.val))
    (convAt (A3 m c (ix2 0 e')) (A2 m c (ix3 0 0 e')) (A2 m c (ix3 0 1 e')) (A2 m c (ix3 0 2 e')) (padded m c g 0 e'.val) (padded m c g 1 e'.val) (padded m c g 2 e'.val))

/-- What a point writes of the gated tile, from what the point before left. -/
theorem outAt_gated (n : ℕ) (hn : n + 1 < cfg0.N) (hle : n ≤ 687) (z : BitVec 1) (hz : z = 1#1 ↔ n % 8 = 0) (i : Fin 1024) (j : Fin 256) (e e' : Fin 22016)
    (he : e.val = 0 + 256 * (n / 16) + j.val) (he' : e'.val = 11008 + 256 * (n / 16) + j.val) :
    outAt z (iblk m c 3 ⟨n + 1, hn⟩) (iblk m c 4 ⟨n + 1, hn⟩) (iblk m c 5 ⟨n + 1, hn⟩) (iblk m c 6 ⟨n + 1, hn⟩)
      (prev m c ⟨n + 1, hn⟩).2.2.2.2.2.2.1 (prev m c ⟨n + 1, hn⟩).2.2.2.2.2.2.2 (prev m c ⟨n + 1, hn⟩).2.2.2.2.1 (prev m c ⟨n + 1, hn⟩).2.2.2.2.2.1 i j
      = gated m c (1024 * (n % 16) + i.val) e e' := by
  obtain ⟨-, -, pua, pug, pha, phg⟩ := inv m c n (by omega) hle
  have hp : prv (n + 1) = n := by show max (n + 1) 1 - 1 = n; omega
  have hi := i.isLt
  have f3 : ∀ a : Fin 3, iblk m c 3 ⟨n + 1, hn⟩ (ix3 0 a j) = A2 m c (ix3 0 a e) := fun a => blk3 m c ⟨n + 1, hn⟩ a j e (by show e.val = 0 + 256 * (prv (n + 1) / 16) + j.val; rw [hp]; exact he)
  have f4 : ∀ a : Fin 3, iblk m c 4 ⟨n + 1, hn⟩ (ix3 0 a j) = A2 m c (ix3 0 a e') := fun a => blk4 m c ⟨n + 1, hn⟩ a j e' (by show e'.val = 11008 + 256 * (prv (n + 1) / 16) + j.val; rw [hp]; exact he')
  have f5 : iblk m c 5 ⟨n + 1, hn⟩ (ix3 0 0 j) = A3 m c (ix2 0 e) := (blk5 m c ⟨n + 1, hn⟩ j e (by show e.val = 0 + 256 * (prv (n + 1) / 16) + j.val; rw [hp]; exact he)).trans (v2_apply m c 0 e)
  have f6 : iblk m c 6 ⟨n + 1, hn⟩ (ix3 0 0 j) = A3 m c (ix2 0 e') := (blk6 m c ⟨n + 1, hn⟩ j e' (by show e'.val = 11008 + 256 * (prv (n + 1) / 16) + j.val; rw [hp]; exact he')).trans (v2_apply m c 0 e')
  have ca : ∀ q, q ≤ 2 → col z (prev m c ⟨n + 1, hn⟩).2.2.2.2.2.2.1 (prev m c ⟨n + 1, hn⟩).2.2.2.2.1 j (i.val + q) = padded m c (1024 * (n % 16) + i.val) q e.val :=
    fun q hq => col_padded m c z n _ _ hz _ _ j (fun i => (pua i j).trans (by rw [he])) (fun h a => (pha h a j).trans (by rw [he])) i.val q rfl hi hq
  have cg : ∀ q, q ≤ 2 → col z (prev m c ⟨n + 1, hn⟩).2.2.2.2.2.2.2 (prev m c ⟨n + 1, hn⟩).2.2.2.2.2.1 j (i.val + q) = padded m c (1024 * (n % 16) + i.val) q e'.val :=
    fun q hq => col_padded m c z n _ _ hz _ _ j (fun i => (pug i j).trans (by rw [he'])) (fun h a => (phg h a j).trans (by rw [he'])) i.val q rfl hi hq
  have a0 : col z (prev m c ⟨n + 1, hn⟩).2.2.2.2.2.2.1 (prev m c ⟨n + 1, hn⟩).2.2.2.2.1 j i.val = padded m c (1024 * (n % 16) + i.val) 0 e.val := ca 0 (by omega)
  have g0 : col z (prev m c ⟨n + 1, hn⟩).2.2.2.2.2.2.2 (prev m c ⟨n + 1, hn⟩).2.2.2.2.2.1 j i.val = padded m c (1024 * (n % 16) + i.val) 0 e'.val := cg 0 (by omega)
  unfold outAt gated
  rw [f3, f3, f3, f4, f4, f4, f5, f6, a0, ca 1 (by omega), ca 2 (by omega), g0, cg 1 (by omega), cg 2 (by omega)]

/-- The gated tile of a point after the first. -/
theorem tile_value (n : ℕ) (hn : n + 1 < cfg0.N) (i : Fin 1024) (j : Fin 256) (e e' : Fin 22016)
    (he : e.val = 0 + 256 * (n / 16) + j.val) (he' : e'.val = 11008 + 256 * (n / 16) + j.val) :
    (outsAt0 (F := Ideal) m c (n + 1) hn).1 (ix2 i j) = gated m c (1024 * (n % 16) + i.val) e e' := by
  have hN := lt_n ⟨n + 1, hn⟩
  have hN' : n + 1 < 689 := hN
  have h0 : ¬(n + 1) % 689 = 0 := by omega
  have hp : prv (n + 1) = n := by show max (n + 1) 1 - 1 = n; omega
  have hz := starts_B ⟨n + 1, hN'⟩
  rw [← coords_pt ⟨n + 1, hn⟩] at hz
  have hz' : starts (kernelRun0_B.sl.v31 (grid0.coords ⟨n + 1, hn⟩)) = 1#1 ↔ n % 8 = 0 := by rw [hz]; show prv (n + 1) % 8 = 0 ↔ _; rw [hp]
  by_cases h1 : (n + 1) % 16 = 0
  · exact (out_C m c ⟨n + 1, hn⟩ h0 h1 i j).trans (outAt_gated m c n hn (by omega) _ hz' i j e e' he he')
  · exact (out_B m c ⟨n + 1, hn⟩ h0 h1 i j).trans (outAt_gated m c n hn (by omega) _ hz' i j e e' he he')

/-- The rounded second layer of a point. -/
theorem down_value (t : Fin cfg0.N) (i : Fin 16) (e : Fin 4096) (r : Fin 11008) (hr : r.val = 16 * cur t.val + i.val) :
    (outsAt0 (F := Ideal) m c t.val t.isLt).2.1 (ix2 i e) = A4 m c (ix3 0 r e) := by
  have hN := lt_n t
  refine Eq.trans ?_ (blk7 m c t i e r hr)
  by_cases h0 : t.val % 689 = 0
  · exact down_A m c t h0 (by omega) i e
  · by_cases h1 : t.val % 16 = 0
    · exact down_C m c t h0 h1 i e
    · exact down_B m c t h0 h1 i e

end Cert.Kernel2Ideal.Up

end
-- ==== Proof.UpRef.lean ====
module

public import proofs.«01_k».proof.Defs
public import proofs.«01_k».proof.Proof.UpInv
public import proofs.«01_k».proof.Proof.Gen.Reference2Ideal
public import proofs.«01_k».proof.Proof.Gen.Reference2Ideal.Run
public import proofs.«01_k».proof.Proof.Gen.Reference2Ideal.Read
public import Idealize.ShloMosaic.Lib.KernelVsHost
public import Idealize.ShloMosaic.Lib.Pipeline.Value
public import Idealize.ShloMosaic.Lib.Pipeline.Covers

/-! The up part of the ConvFFN: the reference at an index, and that the call leaves its results. -/

@[expose] public section

noncomputable section

namespace Cert.Kernel2Ideal.Up

open Idealize.ShloMosaic Idealize.ShloMosaic.TcCoe Idealize.SL.Sem Cert.Kernel2Ideal Cert.Kernel2Ideal.Gen Cert.Reference2Ideal.Read

variable (m : (ℓ : Loc nD τ sig) → Buf (Elt Ideal) ℓ) (c : Dev nD)

/-- The reference's weight of the first layer. -/
theorem ref5 (k : Fin 4096) (e : Fin 22016) : val_main_v5 (F := Ideal) (A1 m c) (ix2 k e) = A1 m c (ix3 0 k e) := by
  rw [val_main_v5_apply, val_main_v4_apply]
  refine congrArg (A1 m c) ?_
  have := k.isLt
  have := e.isLt
  funext q; apply Fin.ext
  match q with
  | ⟨0, _⟩ => rfl
  | ⟨1, _⟩ => show (k.val * 22016 + e.val) / 22016 % 4096 = k.val; omega
  | ⟨2, _⟩ => show (k.val * 22016 + e.val) % 22016 = e.val; omega

/-- The reference's product. -/
theorem ref6 (b : Fin 2) (s : Fin 8192) (e : Fin 22016) :
    val_main_v6 (F := Ideal) (A0 m c) (A1 m c) (ix3 b s e) = U m c (8192 * b.val + s.val) e.val := by
  have hr : 8192 * b.val + s.val < 16384 := by omega
  rw [val_main_v6_apply]
  unfold U
  rw [dif_pos ⟨hr, e.isLt⟩]
  refine Finset.sum_congr rfl fun k _ => ?_
  have hl : lidx_main_v6 (ix3 b s e) k = (ix3 b s k : S2x8192x4096.Idx) := by
    funext a; match a with | ⟨0, _⟩ => rfl | ⟨1, _⟩ => rfl | ⟨2, _⟩ => rfl
  have hw : ridx_main_v6 (ix3 b s e) k = (ix2 k e : Cert.Reference2Ideal.S4096x22016.Idx) := by
    funext a; match a with | ⟨0, _⟩ => rfl | ⟨1, _⟩ => rfl
  rw [hl, hw, ref5]
  exact congrArg (fun x : EReal => x * A1 m c (ix3 0 k e)) (v1_apply m c b s ⟨_, hr⟩ rfl k).symm

/-- The padding value. -/
theorem pad_zero (i) : val_main_call0_v0 (F := Ideal) i = (0 : EReal) := by
  rw [val_main_call0_v0_apply, val_main_c_apply]
  show (((0#32 : BitVec 32).toInt : ℝ) : EReal) = 0
  simp

/-- The reference's product with two rows of zeros before each sequence. -/
theorem ref7 (b : Fin 2) (s : Fin 8192) (q : ℕ) (hq : q ≤ 2) (s' : Fin 8194) (hs : s'.val = s.val + q) (e : Fin 22016) :
    val_main_v7 (F := Ideal) (A0 m c) (A1 m c) (ix3 b s' e) = padded m c (8192 * b.val + s.val) q e.val := by
  have hs8 := s.isLt
  unfold val_main_v7 padded
  by_cases h : s'.val < 2
  · rw [if_pos (by omega)]
    refine (pad_apply_of_not_inside _ _ _ _ _ _ _ _ (1 : Fin 3) ?_).trans (pad_zero _)
    intro k
    have : 2 ≤ s'.val := k.1
    omega
  · rw [if_neg (by omega)]
    refine (pad_apply_of_inside _ _ _ _ _ _ _ _ (ix3 b ⟨s'.val - 2, by omega⟩ e) ?_).trans ((ref6 m c b _ e).trans ?_)
    · intro a
      match a with
      | ⟨0, _⟩ => show b.val = 0 + b.val * (0 + 1); omega
      | ⟨1, _⟩ => show s'.val = 2 + (s'.val - 2) * (0 + 1); omega
      | ⟨2, _⟩ => show e.val = 0 + e.val * (0 + 1); omega
    · refine congrArg (fun x => U m c x e.val) ?_
      show 8192 * b.val + (s'.val - 2) = 8192 * b.val + s.val + q - 2
      omega

section Conv
variable (b : Fin 2) (s : Fin 8192) (e : Fin 22016)

theorem tap0 : val_main_v12 (F := Ideal) (A2 m c) (ix3 b s e) = A2 m c (ix3 0 0 e) := by
  rw [val_main_v12_apply, val_main_v11_apply, val_main_v9_apply, val_main_v8_apply, val_main_v1_apply, val_main_v0_apply]
  refine congrArg (A2 m c) ?_
  have := e.isLt
  funext q; apply Fin.ext
  match q with
  | ⟨0, _⟩ => rfl
  | ⟨1, _⟩ => show (0 * 22016 + e.val % 22016) / 22016 % 3 = 0; omega
  | ⟨2, _⟩ => show (0 * 22016 + e.val % 22016) % 22016 = e.val; omega
theorem tap1 : val_main_v21 (F := Ideal) (A2 m c) (ix3 b s e) = A2 m c (ix3 0 1 e) := by
  rw [val_main_v21_apply, val_main_v20_apply, val_main_v18_apply, val_main_v17_apply, val_main_v1_apply, val_main_v0_apply]
  refine congrArg (A2 m c) ?_
  have := e.isLt
  funext q; apply Fin.ext
  match q with
  | ⟨0, _⟩ => rfl
  | ⟨1, _⟩ => show ((1 + 0) * 22016 + e.val % 22016) / 22016 % 3 = 1; omega
  | ⟨2, _⟩ => show ((1 + 0) * 22016 + e.val % 22016) % 22016 = e.val; omega
theorem tap2 : val_main_v28 (F := Ideal) (A2 m c) (ix3 b s e) = A2 m c (ix3 0 2 e) := by
  rw [val_main_v28_apply, val_main_v27_apply, val_main_v25_apply, val_main_v24_apply, val_main_v1_apply, val_main_v0_apply]
  refine congrArg (A2 m c) ?_
  have := e.isLt
  funext q; apply Fin.ext
  match q with
  | ⟨0, _⟩ => rfl
  | ⟨1, _⟩ => show ((2 + 0) * 22016 + e.val % 22016) / 22016 % 3 = 2; omega
  | ⟨2, _⟩ => show ((2 + 0) * 22016 + e.val % 22016) % 22016 = e.val; omega
theorem bias : val_main_v15 (F := Ideal) (A3 m c) (ix3 b s e) = A3 m c (ix2 0 e) := by
  rw [val_main_v15_apply, val_main_v14_apply, val_main_v3_apply, val_main_v2_apply]
  refine congrArg (A3 m c) ?_
  have := e.isLt
  funext q; apply Fin.ext
  match q with
  | ⟨0, _⟩ => rfl
  | ⟨1, _⟩ => show e.val % 22016 = e.val; omega
theorem near0 : val_main_v10 (F := Ideal) (A0 m c) (A1 m c) (ix3 b s e) = padded m c (8192 * b.val + s.val) 0 e.val := by
  rw [val_main_v10_apply]
  have h : idx_main_v10 (ix3 b s e) = (ix3 b ⟨s.val, by omega⟩ e : Cert.Reference2Ideal.S2x8194x22016.Idx) := by
    funext a; match a with | ⟨0, _⟩ => rfl | ⟨1, _⟩ => rfl | ⟨2, _⟩ => rfl
  rw [h]
  exact ref7 m c b s 0 (by omega) _ rfl e
theorem near1 : val_main_v19 (F := Ideal) (A0 m c) (A1 m c) (ix3 b s e) = padded m c (8192 * b.val + s.val) 1 e.val := by
  rw [val_main_v19_apply]
  have h : idx_main_v19 (ix3 b s e) = (ix3 b ⟨1 + s.val, by omega⟩ e : Cert.Reference2Ideal.S2x8194x22016.Idx) := by
    funext a; match a with | ⟨0, _⟩ => rfl | ⟨1, _⟩ => rfl | ⟨2, _⟩ => rfl
  rw [h]
  exact ref7 m c b s 1 (by omega) _ (Nat.add_comm _ _) e
theorem near2 : val_main_v26 (F := Ideal) (A0 m c) (A1 m c) (ix3 b s e) = padded m c (8192 * b.val + s.val) 2 e.val := by
  rw [val_main_v26_apply]
  have h : idx_main_v26 (ix3 b s e) = (ix3 b ⟨2 + s.val, by omega⟩ e : Cert.Reference2Ideal.S2x8194x22016.Idx) := by
    funext a; match a with | ⟨0, _⟩ => rfl | ⟨1, _⟩ => rfl | ⟨2, _⟩ => rfl
  rw [h]
  exact ref7 m c b s 2 (by omega) _ (Nat.add_comm _ _) e

/-- The reference's convolution. -/
theorem ref30 : val_main_v30 (F := Ideal) (A0 m c) (A1 m c) (A2 m c) (A3 m c) (ix3 b s e)
    = convAt (A3 m c (ix2 0 e)) (A2 m c (ix3 0 0 e)) (A2 m c (ix3 0 1 e)) (A2 m c (ix3 0 2 e))
      (padded m c (8192 * b.val + s.val) 0 e.val) (padded m c (8192 * b.val + s.val) 1 e.val) (padded m c (8192 * b.val + s.val) 2 e.val) := by
  rw [val_main_v30_apply, val_main_v23_apply, val_main_v16_apply, val_main_v13_apply, val_main_v22_apply, val_main_v29_apply,
    tap0, tap1, tap2, bias, near0, near1, near2]
  rfl
end Conv

/-- The reference's silu. -/
theorem silu (g a : EReal) :
    FloatOps.mulf (F := Ideal) (φ := .f32) (FloatOps.mulf (F := Ideal) (φ := .f32) g (FloatOps.hostDivf (F := Ideal) (φ := .f32) (FloatOps.ofBits (F := Ideal) .f32 0x3F800000#32)
      (FloatOps.addf (F := Ideal) (φ := .f32) (FloatOps.ofBits (F := Ideal) .f32 0x3F800000#32)
        (FloatOps.hostUnary (F := Ideal) (φ := .f32) .exp (FloatOps.hostNegf (F := Ideal) (φ := .f32) g))))) a = gateAt a g := by
  unfold gateAt
  simp [Ideal.logistic]

/-- The reference's gated product. -/
theorem ref36 (b : Fin 2) (s : Fin 8192) (r : Fin 16384) (hr : r.val = 8192 * b.val + s.val) (j : Fin 11008) (e e' : Fin 22016) (he : e.val = j.val) (he' : e'.val = 11008 + j.val) :
    val_main_v36 (F := Ideal) (A0 m c) (A1 m c) (A2 m c) (A3 m c) (ix2 r j) = gated m c r.val e e' := by
  have hi : idx_main_v35 (ix2 r j) = (ix3 b s j : Cert.Reference2Ideal.S2x8192x11008.Idx) := by
    funext a; apply Fin.ext
    match a with
    | ⟨0, _⟩ => show (r.val * 11008 + j.val) / 90177536 = b.val; omega
    | ⟨1, _⟩ => show (r.val * 11008 + j.val) / 11008 % 8192 = s.val; omega
    | ⟨2, _⟩ => show (r.val * 11008 + j.val) % 11008 = j.val; omega
  have ha : idx_main_v31 (ix3 b s j) = (ix3 b s e : Cert.Reference2Ideal.S2x8192x22016.Idx) := by
    funext a; apply Fin.ext
    match a with | ⟨0, _⟩ => rfl | ⟨1, _⟩ => rfl | ⟨2, _⟩ => exact he.symm
  have hg : idx_main_v32 (ix3 b s j) = (ix3 b s e' : Cert.Reference2Ideal.S2x8192x22016.Idx) := by
    funext a; apply Fin.ext
    match a with | ⟨0, _⟩ => rfl | ⟨1, _⟩ => rfl | ⟨2, _⟩ => exact he'.symm
  refine (val_main_v36_apply _ _ _ _ _).trans ?_
  show val_main_v35 (F := Ideal) (A0 m c) (A1 m c) (A2 m c) (A3 m c) (ix2 r j) = _
  rw [val_main_v35_apply, hi, val_main_v34_apply, val_main_v33_apply, val_main_call1_v5_apply, val_main_call1_v4_apply, val_main_call1_cst_0_apply,
    val_main_call1_v3_apply, val_main_call1_v2_apply, val_main_call1_cst_apply, val_main_call1_v1_apply, val_main_call1_v0_apply,
    val_main_v31_apply, val_main_v32_apply, ha, hg, silu, ref30, ref30]
  unfold gated
  rw [hr]

/-- The reference's rounded second layer. -/
theorem ref39 (r : Fin 11008) (e : Fin 4096) : val_main_v39 (F := Ideal) (A4 m c) (ix2 r e) = A4 m c (ix3 0 r e) := by
  refine (val_main_v39_apply _ _).trans ?_
  show val_main_v38 (F := Ideal) (A4 m c) (ix2 r e) = _
  rw [val_main_v38_apply, val_main_v37_apply]
  refine congrArg (A4 m c) ?_
  have := r.isLt
  have := e.isLt
  funext q; apply Fin.ext
  match q with
  | ⟨0, _⟩ => rfl
  | ⟨1, _⟩ => show (r.val * 4096 + e.val) / 4096 % 11008 = r.val; omega
  | ⟨2, _⟩ => show (r.val * 4096 + e.val) % 4096 = e.val; omega

end Cert.Kernel2Ideal.Up

end
-- ==== Proof.UpSame.lean ====
module

public import proofs.«01_k».proof.Defs
public import proofs.«01_k».proof.Proof.UpRef
public import Idealize.ShloMosaic.Lib.Pipeline.Value
public import Idealize.ShloMosaic.Lib.Pipeline.Covers
public import Idealize.ShloMosaic.Lib.Pipeline.ValueKit

/-! The up part of the ConvFFN: the call's two result arrays are the reference's. -/

@[expose] public section

noncomputable section

namespace Cert.Kernel2Ideal.Up

open Idealize.ShloMosaic Idealize.ShloMosaic.TcCoe Idealize.SL.Sem Cert.Kernel2Ideal Cert.Kernel2Ideal.Gen

variable (m : (ℓ : Loc nD τ sig) → Buf (Elt Ideal) ℓ) (c : Dev nD)

/-- The reference's gated product. -/
def target8 : Vec Ideal S16384x11008 .bf16 :=
  Cert.Reference2Ideal.Read.val_main_v36 (F := Ideal) (A0 m c) (A1 m c) (A2 m c) (A3 m c)

/-- The reference's second layer. -/
def target9 : Vec Ideal S11008x4096 .bf16 := Cert.Reference2Ideal.Read.val_main_v39 (F := Ideal) (A4 m c)

theorem target8_apply (r : Fin 16384) (j : Fin 11008) (e e' : Fin 22016) (he : e.val = j.val) (he' : e'.val = 11008 + j.val) :
    target8 m c (ix2 r j) = gated m c r.val e e' :=
  ref36 m c ⟨r.val / 8192, by omega⟩ ⟨r.val % 8192, by omega⟩ r (by show r.val = 8192 * (r.val / 8192) + r.val % 8192; omega) j e e' he he'

theorem target9_apply (r : Fin 11008) (e : Fin 4096) : target9 m c (ix2 r e) = A4 m c (ix3 0 r e) := ref39 m c r e

/-- The block of the first result at a point. -/
theorem at8 (t : Fin cfg0.N) : cc0_transform_8 (grid0.coords t) 0 = prv t.val % 16 ∧ cc0_transform_8 (grid0.coords t) 1 = prv t.val / 16 := by
  have M := map8 ⟨t.val, lt_n t⟩
  rw [← coords_pt t] at M
  exact M
theorem at9 (t : Fin cfg0.N) : cc0_transform_9 (grid0.coords t) 0 = cur t.val := by
  have M := map9 ⟨t.val, lt_n t⟩
  rw [← coords_pt t] at M
  exact M.1

/-- The first point does not write the first result back: the second writes the same block. -/
theorem no_flush (t : Fin cfg0.N) (h : t.val = 0) : (cfg0.win 8).flush t = false := by
  have hN : cfg0.N = 689 := N_0
  have h1 : t.val + 1 < cfg0.N := by omega
  have same : (cfg0.win 8).index ⟨t.val + 1, h1⟩ = (cfg0.win 8).index t := by
    obtain ⟨a0, a1⟩ := at8 t
    obtain ⟨b0, b1⟩ := at8 ⟨t.val + 1, h1⟩
    have p : prv (t.val + 1) = prv t.val := by show max (t.val + 1) 1 - 1 = max t.val 1 - 1; omega
    dsimp only at b0 b1
    rw [p, ← a0] at b0
    rw [p, ← a1] at b1
    funext a
    match a with
    | ⟨0, _⟩ => exact b0
    | ⟨1, _⟩ => exact b1
  refine Bool.eq_false_iff.mpr fun hf => ?_
  unfold Pipeline.Window.flush at hf
  rw [Bool.and_eq_true, Bool.or_eq_true, decide_eq_true_eq, decide_eq_true_eq] at hf
  obtain ⟨_, hl | ⟨_, hd⟩⟩ := hf
  · have : t.val + 1 = cfg0.N := hl
    omega
  · exact hd same

/-- Every element of the first result lies in the block of a point that writes it back. -/
theorem covered8 (r : Fin 16384) (j : Fin 11008) : ∃ t : Fin cfg0.N, (cfg0.win 8).flush t = true
    ∧ prv t.val % 16 = r.val / 1024 ∧ prv t.val / 16 = j.val / 256 := by
  have hN : cfg0.N = 689 := N_0
  obtain ⟨t, -, hf, hx⟩ := Pipeline.Window.exists_flush_same_index win0_8 rfl (⟨16 * (j.val / 256) + r.val / 1024 + 1, by omega⟩ : Fin cfg0.N)
  obtain ⟨a0, a1⟩ := at8 t
  obtain ⟨b0, b1⟩ := at8 ⟨16 * (j.val / 256) + r.val / 1024 + 1, by omega⟩
  have x0 := congrFun hx 0
  have x1 := congrFun hx 1
  have x0' := a0.symm.trans ((show cc0_transform_8 (grid0.coords t) 0 = _ from x0).trans b0)
  have x1' := a1.symm.trans ((show cc0_transform_8 (grid0.coords t) 1 = _ from x1).trans b1)
  have p : prv (16 * (j.val / 256) + r.val / 1024 + 1) = 16 * (j.val / 256) + r.val / 1024 := by
    show max (16 * (j.val / 256) + r.val / 1024 + 1) 1 - 1 = _; omega
  dsimp only at x0' x1'
  rw [p] at x0' x1'
  exact ⟨t, hf, by omega, by omega⟩

/-- Every element of the second result lies in the block of a point that writes it back. -/
theorem covered9 (r : Fin 11008) : ∃ t : Fin cfg0.N, (cfg0.win 9).flush t = true ∧ cur t.val = r.val / 16 := by
  have hN : cfg0.N = 689 := N_0
  obtain ⟨t, -, hf, hx⟩ := Pipeline.Window.exists_flush_same_index win0_9 rfl (⟨r.val / 16, by omega⟩ : Fin cfg0.N)
  have x0' := (at9 t).symm.trans ((show cc0_transform_9 (grid0.coords t) 0 = _ from congrFun hx 0).trans (at9 ⟨r.val / 16, by omega⟩))
  have p : cur (r.val / 16) = r.val / 16 := by show min (r.val / 16) 687 = _; omega
  exact ⟨t, hf, x0'.trans p⟩

/-- What a point after the first leaves of the first result. -/
theorem point8 (t : Fin cfg0.N) (h : t.val ≠ 0) (i : Fin 1024) (j : Fin 256) (e e' : Fin 22016)
    (he : e.val = 0 + 256 * (prv t.val / 16) + j.val) (he' : e'.val = 11008 + 256 * (prv t.val / 16) + j.val) :
    (outsAt0 (F := Ideal) m c t.val t.isLt).1 (ix2 i j) = gated m c (1024 * (prv t.val % 16) + i.val) e e' := by
  obtain ⟨n, hn⟩ := t
  cases n with
  | zero => exact absurd rfl h
  | succ n =>
    have p : prv (n + 1) = n := by show max (n + 1) 1 - 1 = n; omega
    dsimp only at he he' ⊢
    rw [p] at he he' ⊢
    exact tile_value m c n hn i j e e' he he'

/-- The first result array after the run. -/
theorem final8 : (dats m 0 c).arrAt 8 cfg0.N = target8 m c := by
  refine (dats m 0 c).arrAt_eq_of_cover 8 (target8 m c) ?_ ?_
  · intro t ht
    have h0 : t.val ≠ 0 := fun h => by
      have := no_flush t h
      rw [this] at ht
      exact Bool.false_ne_true ht
    funext y
    obtain ⟨i, j, rfl⟩ : ∃ (i : Fin 1024) (j : Fin 256), y = ix2 i j := ⟨y 0, y 1, by funext a; match a with | ⟨0, _⟩ => rfl | ⟨1, _⟩ => rfl⟩
    have hn := lt_n t
    have hp : prv t.val = t.val - 1 := by show max t.val 1 - 1 = _; omega
    have key : ∀ X : Vec Ideal S1024x256 .bf16, (cfg0.win 8).cut (grid0.coords t) X (ix2 i j) = X (ix2 i j) := fun _ => rfl
    have read : ∀ X : Vec Ideal S16384x11008 .bf16, ((cfg0.win 8).blk t).view.read (Elt Ideal) X (ix2 i j) = X (((cfg0.win 8).blk t).view.emb (ix2 i j)) := fun _ => rfl
    refine ((congrFun (Cert.Kernel2Ideal.Value.flushed8 m c t) (ix2 i j)).trans (key _)).trans (Eq.trans ?_ (read (target8 m c)).symm)
    rw [emb8 t i j ⟨1024 * (prv t.val % 16) + i.val, by omega⟩ ⟨256 * (prv t.val / 16) + j.val, by omega⟩ rfl rfl]
    rw [target8_apply m c _ _ ⟨0 + 256 * (prv t.val / 16) + j.val, by omega⟩ ⟨11008 + 256 * (prv t.val / 16) + j.val, by omega⟩
      (by show 0 + 256 * (prv t.val / 16) + j.val = 256 * (prv t.val / 16) + j.val; omega)
      (by show 11008 + 256 * (prv t.val / 16) + j.val = 11008 + (256 * (prv t.val / 16) + j.val); omega)]
    exact point8 m c t h0 i j _ _ rfl rfl
  · intro y
    obtain ⟨r, e, rfl⟩ : ∃ (r : Fin 16384) (e : Fin 11008), y = ix2 r e := ⟨y 0, y 1, by funext a; match a with | ⟨0, _⟩ => rfl | ⟨1, _⟩ => rfl⟩
    obtain ⟨t, hf, e0, e1⟩ := covered8 r e
    refine ⟨t, hf, ?_⟩
    rw [← emb8 t ⟨r.val % 1024, by omega⟩ ⟨e.val % 256, by omega⟩ r e (by rw [e0]; show r.val = 1024 * (r.val / 1024) + r.val % 1024; omega)
      (by rw [e1]; show e.val = 256 * (e.val / 256) + e.val % 256; omega)]
    exact View.emb_mem_set _ _

/-- The second result array after the run. -/
theorem final9 : (dats m 0 c).arrAt 9 cfg0.N = target9 m c := by
  refine (dats m 0 c).arrAt_eq_of_cover 9 (target9 m c) ?_ ?_
  · intro t _
    funext y
    obtain ⟨i, e, rfl⟩ : ∃ (i : Fin 16) (e : Fin 4096), y = ix2 i e := ⟨y 0, y 1, by funext a; match a with | ⟨0, _⟩ => rfl | ⟨1, _⟩ => rfl⟩
    have hc : cur t.val ≤ 687 := by show min t.val 687 ≤ 687; omega
    have key : ∀ X : Vec Ideal S16x4096 .bf16, (cfg0.win 9).cut (grid0.coords t) X (ix2 i e) = X (ix2 i e) := fun _ => rfl
    have read : ∀ X : Vec Ideal S11008x4096 .bf16, ((cfg0.win 9).blk t).view.read (Elt Ideal) X (ix2 i e) = X (((cfg0.win 9).blk t).view.emb (ix2 i e)) := fun _ => rfl
    refine ((congrFun (Cert.Kernel2Ideal.Value.flushed9 m c t) (ix2 i e)).trans (key _)).trans (Eq.trans ?_ (read (target9 m c)).symm)
    rw [emb9 t i e ⟨16 * cur t.val + i.val, by omega⟩ e rfl rfl, target9_apply]
    exact down_value m c t i e _ rfl
  · intro y
    obtain ⟨r, e, rfl⟩ : ∃ (r : Fin 11008) (e : Fin 4096), y = ix2 r e := ⟨y 0, y 1, by funext a; match a with | ⟨0, _⟩ => rfl | ⟨1, _⟩ => rfl⟩
    obtain ⟨t, hf, e0⟩ := covered9 r
    refine ⟨t, hf, ?_⟩
    rw [← emb9 t ⟨r.val % 16, by omega⟩ e r e (by rw [e0]; show r.val = 16 * (r.val / 16) + r.val % 16; omega) rfl]
    exact View.emb_mem_set _ _

/-- The two leave the same results. -/
theorem same_value : Cert.algebraic_Kernel2Ideal_Reference2Ideal (hKernel2Ideal := Cert.Kernel2Ideal.Gen.facts)
    (hReference2Ideal := Cert.Reference2Ideal.Gen.facts) := fun m g m' g' _ ha => by
  refine ⟨target8 m, target9 m, (θ_run defs _ _).mono (fun _ h c => ⟨(h c).1.trans (final8 m c), (h c).2.1.trans (final9 m c), (h c).2.2⟩)
    (Cert.Kernel2Ideal.Value.run_blocks m g), ?_⟩
  refine (θ_run Cert.Reference2Ideal.defs _ _).mono (fun r h c => ⟨(h c).1.trans ?_, (h c).2.1.trans ?_, (h c).2.2⟩) (Cert.Reference2Ideal.Value.run m' g')
  · obtain ⟨a0, a1, a2, a3, a4⟩ := ha c
    rw [Cert.Reference2Ideal.Read.val_main_v36_eq, a0, a1, a2, a3]
    rfl
  · obtain ⟨a0, a1, a2, a3, a4⟩ := ha c
    rw [Cert.Reference2Ideal.Read.val_main_v39_eq, a4]
    rfl

end Cert.Kernel2Ideal.Up

end
-- ==== Proof.Down.lean ====
module

public import proofs.«01_k».proof.Defs
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.StableHlo.ReadAt
public import Idealize.ShloMosaic.Lib.Pointwise
public import Idealize.ShloMosaic.Lib.Pipeline.Value
public import Idealize.ShloMosaic.Lib.Pipeline.Covers
public import Idealize.ShloMosaic.Lib.Pipeline.ValueKit

/-! The down part of the ConvFFN with its gated residual: the call's result array is the reference's. -/

@[expose] public section

noncomputable section

namespace Cert.Kernel3Ideal.Down

open Idealize.ShloMosaic Idealize.ShloMosaic.TcCoe Idealize.SL.Sem Cert.Kernel3Ideal Cert.Kernel3Ideal.Gen

/-- One element of the residual: the weighted input and the gated product. -/
def elem (x g p : EReal) : EReal :=
  FloatOps.addf (F := Ideal) (φ := .f32) (FloatOps.mulf (F := Ideal) (φ := .f32) (FloatOps.ofBits (F := Ideal) .f32 0x3FB504F3#32) x)
    (FloatOps.mulf (F := Ideal) (φ := .f32) (FloatOps.addf (F := Ideal) (φ := .f32) (FloatOps.ofBits (F := Ideal) .f32 0x3F800000#32) g) p)

/-- What the body computes of one tile. -/
theorem pay_apply (v0 : Vec Ideal S512x11008 .bf16) (v2 : Vec Ideal S11008x512 .bf16) (v5 : Vec Ideal S512x512 .f32) (v9 : Vec Ideal S1x1x512 .f32)
    (i j : Fin 512) : k0_pay1 v0 v2 v5 v9 (ix2 i j) = elem (v5 (ix2 i j)) (v9 (ix3 0 0 j)) (∑ k : Fin 11008, v0 (ix2 i k) * v2 (ix2 k j)) := by
  pointwise [k0_pay1, elem]

variable (m : (ℓ : Loc nD τ sig) → Buf (Elt Ideal) ℓ) (c : Dev nD)

abbrev A0 : Vec Ideal S2x8192x11008 .f32 := m ((c : Thread nD τ).loc main_arg0)
abbrev A1 : Vec Ideal S11008x4096 .f32 := m ((c : Thread nD τ).loc main_arg1)
abbrev A2 : Vec Ideal S2x8192x4096 .f32 := m ((c : Thread nD τ).loc main_arg2)
abbrev A3 : Vec Ideal S2x4096 .f32 := m ((c : Thread nD τ).loc main_arg3)

/-- The reference's value of the kernel's arguments. -/
def target : Vec Ideal S16384x4096 .f32 := Cert.Reference3Ideal.Read.val_main_v9 (F := Ideal) (A0 m c) (A1 m c) (A2 m c) (A3 m c)

/-- The reference's value of an element. -/
theorem target_apply (b : Fin 2) (s : Fin 8192) (r : Fin 16384) (hr : r.val = 8192 * b.val + s.val) (e : Fin 4096) :
    target m c (ix2 r e) = elem (A2 m c (ix3 b s e)) (A3 m c (ix2 b e)) (∑ k : Fin 11008, A0 m c (ix3 b s k) * A1 m c (ix2 k e)) := by
  have hi : Cert.Reference3Ideal.Read.idx_main_v9 (ix2 r e) = (ix3 b s e : S2x8192x4096.Idx) := by
    funext a; apply Fin.ext
    match a with
    | ⟨0, _⟩ => show (r.val * 4096 + e.val) / 33554432 = b.val; omega
    | ⟨1, _⟩ => show (r.val * 4096 + e.val) / 4096 % 8192 = s.val; omega
    | ⟨2, _⟩ => show (r.val * 4096 + e.val) % 4096 = e.val; omega
  refine (Cert.Reference3Ideal.Read.val_main_v9_apply _ _ _ _ _).trans ?_
  rw [hi]
  unfold elem
  rw [Cert.Reference3Ideal.Read.val_main_v8_apply, Cert.Reference3Ideal.Read.val_main_v2_apply, Cert.Reference3Ideal.Read.val_main_v7_apply,
    Cert.Reference3Ideal.Read.val_main_v1_apply, Cert.Reference3Ideal.Read.val_main_cst_apply, Cert.Reference3Ideal.Read.val_main_v6_apply,
    Cert.Reference3Ideal.Read.val_main_v5_apply, Cert.Reference3Ideal.Read.val_main_v4_apply, Cert.Reference3Ideal.Read.val_main_cst_0_apply,
    Cert.Reference3Ideal.Read.val_main_v3_apply, Cert.Reference3Ideal.Read.val_main_v0_apply]
  have h3 : Cert.Reference3Ideal.Read.idx_main_v3 (Cert.Reference3Ideal.Read.idx_main_v6 (ix3 b s e)) = (ix2 b e : S2x4096.Idx) := by
    funext a; match a with | ⟨0, _⟩ => rfl | ⟨1, _⟩ => rfl
  have hl (k : Fin 11008) : Cert.Reference3Ideal.Read.lidx_main_v0 (ix3 b s e) k = (ix3 b s k : S2x8192x11008.Idx) := by
    funext a; match a with | ⟨0, _⟩ => rfl | ⟨1, _⟩ => rfl | ⟨2, _⟩ => rfl
  have hw (k : Fin 11008) : Cert.Reference3Ideal.Read.ridx_main_v0 (ix3 b s e) k = (ix2 k e : S11008x4096.Idx) := by
    funext a; match a with | ⟨0, _⟩ => rfl | ⟨1, _⟩ => rfl
  simp only [h3, hl, hw]

/-! The arrays the host hands over, at an index. -/

theorem v1_apply (b : Fin 2) (s : Fin 8192) (r : Fin 16384) (hr : r.val = 8192 * b.val + s.val) (e : Fin 11008) :
    V m c main_v1 (ix2 r e) = A0 m c (ix3 b s e) := by
  have h1 : r.val / 8192 = b.val := by omega
  have h2 : r.val % 8192 = s.val := by omega
  unfold V
  after_reads_at
  simp only [h1, h2]
theorem v2_apply (k : Fin 11008) (e : Fin 4096) : V m c main_v2 (ix2 k e) = A1 m c (ix2 k e) := by
  unfold V
  after_reads_at
theorem v3_apply (b : Fin 2) (s : Fin 8192) (r : Fin 16384) (hr : r.val = 8192 * b.val + s.val) (e : Fin 4096) :
    V m c main_v3 (ix2 r e) = A2 m c (ix3 b s e) := by
  have h1 : r.val / 8192 = b.val := by omega
  have h2 : r.val % 8192 = s.val := by omega
  unfold V
  after_reads_at
  simp only [h1, h2]
theorem v4_apply (b : Fin 2) (e : Fin 4096) : V m c main_v4 (ix3 b 0 e) = A3 m c (ix2 b e) := by
  unfold V
  after_reads_at

/-! The blocks of a grid point. -/

theorem at0 (i : grid0.Coords) : cc0_transform_0 i 0 = (i 0).val ∧ cc0_transform_0 i 1 = 0 := by
  have h0 : (i 0).val < 32 := (i 0).isLt
  unfold cc0_transform_0
  constructor <;> simp [BitVec.toNat_ofNat] <;> omega
theorem at1 (i : grid0.Coords) : cc0_transform_1 i 0 = 0 ∧ cc0_transform_1 i 1 = (i 1).val := by
  have h1 : (i 1).val < 8 := (i 1).isLt
  unfold cc0_transform_1
  constructor <;> simp [BitVec.toNat_ofNat] <;> omega
theorem at2 (i : grid0.Coords) : cc0_transform_2 i 0 = (i 0).val ∧ cc0_transform_2 i 1 = (i 1).val := by
  have h0 : (i 0).val < 32 := (i 0).isLt
  have h1 : (i 1).val < 8 := (i 1).isLt
  unfold cc0_transform_2
  constructor <;> simp [BitVec.toNat_ofNat] <;> omega
theorem at4 (i : grid0.Coords) : cc0_transform_4 i 0 = (i 0).val ∧ cc0_transform_4 i 1 = (i 1).val := by
  have h0 : (i 0).val < 32 := (i 0).isLt
  have h1 : (i 1).val < 8 := (i 1).isLt
  unfold cc0_transform_4
  constructor <;> simp [BitVec.toNat_ofNat] <;> omega
theorem at3 (i : grid0.Coords) : cc0_transform_3 i 0 = (i 0).val / 16 ∧ cc0_transform_3 i 1 = 0 ∧ cc0_transform_3 i 2 = (i 1).val := by
  have h1 : (i 1).val < 8 := (i 1).isLt
  have key : ∀ x : Fin 32, cc0_transform_3 (fun a => match a with | ⟨0, _⟩ => x | ⟨1, _⟩ => (0 : Fin 8)) 0 = x.val / 16 := by decide
  refine ⟨(show cc0_transform_3 i 0 = cc0_transform_3 (fun a => match a with | ⟨0, _⟩ => i 0 | ⟨1, _⟩ => (0 : Fin 8)) 0 from rfl).trans (key (i 0)), rfl, ?_⟩
  show (BitVec.ofNat 32 (i 1).val).toNat = (i 1).val
  simp [BitVec.toNat_ofNat]; omega

section Blocks
variable (t : Fin cfg0.N) (i j : Fin 512)

theorem emb4 (r : Fin 16384) (e : Fin 4096) (hr : r.val = (grid0.coords t 0).val * 512 + i.val) (he : e.val = (grid0.coords t 1).val * 512 + j.val) :
    ((cfg0.win 4).blk t).view.emb (ix2 i j) = (ix2 r e : S16384x4096.Idx) := by
  obtain ⟨e0, e1⟩ := at4 (grid0.coords t)
  funext a; apply Fin.ext
  match a with
  | ⟨0, _⟩ => show cc0_transform_4 (grid0.coords t) 0 * 512 + 1 * i.val = r.val; omega
  | ⟨1, _⟩ => show cc0_transform_4 (grid0.coords t) 1 * 512 + 1 * j.val = e.val; omega
theorem blk0 (k : Fin 11008) (r : Fin 16384) (hr : r.val = (grid0.coords t 0).val * 512 + i.val) :
    iblk m c 0 t (ix2 i k) = V m c main_v1 (ix2 r k) := by
  obtain ⟨e0, e1⟩ := at0 (grid0.coords t)
  show V m c main_v1 (((cfg0.win 0).blk t).view.emb (ix2 i k)) = _
  congr 1; funext a; apply Fin.ext
  match a with
  | ⟨0, _⟩ => show cc0_transform_0 (grid0.coords t) 0 * 512 + 1 * i.val = r.val; omega
  | ⟨1, _⟩ => show cc0_transform_0 (grid0.coords t) 1 * 11008 + 1 * k.val = k.val; omega
theorem blk1 (k : Fin 11008) (e : Fin 4096) (he : e.val = (grid0.coords t 1).val * 512 + j.val) :
    iblk m c 1 t (ix2 k j) = V m c main_v2 (ix2 k e) := by
  obtain ⟨e0, e1⟩ := at1 (grid0.coords t)
  show V m c main_v2 (((cfg0.win 1).blk t).view.emb (ix2 k j)) = _
  congr 1; funext a; apply Fin.ext
  match a with
  | ⟨0, _⟩ => show cc0_transform_1 (grid0.coords t) 0 * 11008 + 1 * k.val = k.val; omega
  | ⟨1, _⟩ => show cc0_transform_1 (grid0.coords t) 1 * 512 + 1 * j.val = e.val; omega
theorem blk2 (r : Fin 16384) (e : Fin 4096) (hr : r.val = (grid0.coords t 0).val * 512 + i.val) (he : e.val = (grid0.coords t 1).val * 512 + j.val) :
    iblk m c 2 t (ix2 i j) = V m c main_v3 (ix2 r e) := by
  obtain ⟨e0, e1⟩ := at2 (grid0.coords t)
  show V m c main_v3 (((cfg0.win 2).blk t).view.emb (ix2 i j)) = _
  congr 1; funext a; apply Fin.ext
  match a with
  | ⟨0, _⟩ => show cc0_transform_2 (grid0.coords t) 0 * 512 + 1 * i.val = r.val; omega
  | ⟨1, _⟩ => show cc0_transform_2 (grid0.coords t) 1 * 512 + 1 * j.val = e.val; omega
theorem blk3 (b : Fin 2) (e : Fin 4096) (hb : b.val = (grid0.coords t 0).val / 16) (he : e.val = (grid0.coords t 1).val * 512 + j.val) :
    iblk m c 3 t (ix3 0 0 j) = V m c main_v4 (ix3 b 0 e) := by
  obtain ⟨e0, e1, e2⟩ := at3 (grid0.coords t)
  show V m c main_v4 (((cfg0.win 3).blk t).view.emb (ix3 0 0 j)) = _
  congr 1; funext a; apply Fin.ext
  match a with
  | ⟨0, _⟩ => show cc0_transform_3 (grid0.coords t) 0 * 1 + 1 * 0 = b.val; omega
  | ⟨1, _⟩ => show cc0_transform_3 (grid0.coords t) 1 * 1 + 1 * 0 = 0; omega
  | ⟨2, _⟩ => show cc0_transform_3 (grid0.coords t) 2 * 512 + 1 * j.val = e.val; omega

/-- What a grid point writes is the reference's value there. -/
theorem point_value (r : Fin 16384) (e : Fin 4096) (hr : r.val = (grid0.coords t 0).val * 512 + i.val) (he : e.val = (grid0.coords t 1).val * 512 + j.val) :
    out0_4 (iblk m c 0 t) (iblk m c 1 t) (iblk m c 2 t) (iblk m c 3 t) (ix2 i j) = target m c (ix2 r e) := by
  have h0 : (grid0.coords t 0).val < 32 := (grid0.coords t 0).isLt
  have hr' : r.val = 8192 * (⟨r.val / 8192, by omega⟩ : Fin 2).val + (⟨r.val % 8192, by omega⟩ : Fin 8192).val := by
    show r.val = 8192 * (r.val / 8192) + r.val % 8192; omega
  rw [target_apply m c _ _ r hr' e]
  unfold out0_4
  rw [View.canon_cons_unit_lit, View.ld_unit_lit, View.ld_unit_lit, View.ld_unit_lit, View.ld_unit_lit, pay_apply]
  rw [blk2 m c t i j r e hr he, blk3 m c t j ⟨r.val / 8192, by omega⟩ e (by show r.val / 8192 = _; omega) he, v3_apply m c _ _ r hr' e, v4_apply]
  refine congrArg (elem _ _) (Finset.sum_congr rfl fun k _ => ?_)
  rw [blk0 m c t i k r hr, blk1 m c t j k e he, v1_apply m c _ _ r hr' k, v2_apply]
  all_goals decide

end Blocks

/-- Every element of the result lies in the block of a point that writes it back. -/
theorem covered (r : Fin 16384) (e : Fin 4096) : ∃ t : Fin cfg0.N, (cfg0.win 4).flush t = true
    ∧ (grid0.coords t 0).val = r.val / 512 ∧ (grid0.coords t 1).val = e.val / 512 := by
  obtain ⟨t₀, h₀⟩ := Pipeline.Grid.coords_surjective grid0 (fun a => match a with
    | ⟨0, _⟩ => ⟨r.val / 512, by show _ < 32; omega⟩
    | ⟨1, _⟩ => ⟨e.val / 512, by show _ < 8; omega⟩)
  obtain ⟨t, -, hf, hx⟩ := Pipeline.Window.exists_flush_same_index win0_4 rfl t₀
  obtain ⟨a0, a1⟩ := at4 (grid0.coords t)
  obtain ⟨b0, b1⟩ := at4 (grid0.coords t₀)
  have x0 : cc0_transform_4 (grid0.coords t) 0 = cc0_transform_4 (grid0.coords t₀) 0 := congrFun hx 0
  have x1 : cc0_transform_4 (grid0.coords t) 1 = cc0_transform_4 (grid0.coords t₀) 1 := congrFun hx 1
  have y0 : (grid0.coords t₀ 0).val = r.val / 512 := congrArg Fin.val (congrFun h₀ 0)
  have y1 : (grid0.coords t₀ 1).val = e.val / 512 := congrArg Fin.val (congrFun h₀ 1)
  exact ⟨t, hf, by omega, by omega⟩

/-- The result array after the run. -/
theorem final_value : (dats m 0 c).arrAt 4 cfg0.N = target m c := by
  refine (dats m 0 c).arrAt_eq_of_cover 4 (target m c) ?_ ?_
  · intro t _
    funext y
    obtain ⟨i, j, rfl⟩ : ∃ (i j : Fin 512), y = ix2 i j := ⟨y 0, y 1, by funext a; match a with | ⟨0, _⟩ => rfl | ⟨1, _⟩ => rfl⟩
    have h0 : (grid0.coords t 0).val < 32 := (grid0.coords t 0).isLt
    have h1 : (grid0.coords t 1).val < 8 := (grid0.coords t 1).isLt
    have key : ∀ X : Vec Ideal S512x512 .f32, (cfg0.win 4).cut (grid0.coords t) X (ix2 i j) = X (ix2 i j) := fun _ => rfl
    have read : ∀ X : Vec Ideal S16384x4096 .f32, ((cfg0.win 4).blk t).view.read (Elt Ideal) X (ix2 i j) = X (((cfg0.win 4).blk t).view.emb (ix2 i j)) := fun _ => rfl
    refine ((congrFun (Cert.Kernel3Ideal.Value.flushed4 m c t) (ix2 i j)).trans (key _)).trans (Eq.trans ?_ (read (target m c)).symm)
    rw [emb4 t i j ⟨(grid0.coords t 0).val * 512 + i.val, by omega⟩ ⟨(grid0.coords t 1).val * 512 + j.val, by omega⟩ rfl rfl]
    exact point_value m c t i j _ _ rfl rfl
  · intro y
    obtain ⟨r, e, rfl⟩ : ∃ (r : Fin 16384) (e : Fin 4096), y = ix2 r e := ⟨y 0, y 1, by funext a; match a with | ⟨0, _⟩ => rfl | ⟨1, _⟩ => rfl⟩
    obtain ⟨t, hf, e0, e1⟩ := covered r e
    refine ⟨t, hf, ?_⟩
    rw [← emb4 t ⟨r.val % 512, by omega⟩ ⟨e.val % 512, by omega⟩ r e (by rw [e0]; show r.val = r.val / 512 * 512 + r.val % 512; omega)
      (by rw [e1]; show e.val = e.val / 512 * 512 + e.val % 512; omega)]
    exact View.emb_mem_set _ _

/-- The two leave the same result. -/
theorem same_value : Cert.algebraic_Kernel3Ideal_Reference3Ideal (hKernel3Ideal := Cert.Kernel3Ideal.Gen.facts)
    (hReference3Ideal := Cert.Reference3Ideal.Gen.facts) := fun m g m' g' _ ha => by
  refine ⟨target m, (θ_run defs _ _).mono (fun _ h c => ⟨(h c).1.trans (final_value m c), (h c).2⟩) (Cert.Kernel3Ideal.Value.run_blocks m g), ?_⟩
  refine (θ_run Cert.Reference3Ideal.defs _ _).mono (fun r h c => ⟨(h c).1.trans ?_, (h c).2⟩) (Cert.Reference3Ideal.Value.run m' g')
  obtain ⟨a0, a1, a2, a3⟩ := ha c
  rw [Cert.Reference3Ideal.Read.val_main_v9_eq, a0, a1, a2, a3]
  rfl

end Cert.Kernel3Ideal.Down

end
-- ==== Proof.Trip.lean ====
module

public import proofs.«01_k».proof.Proof.Gen.KernelIdeal.Frame.Runs
public import Idealize.ShloMosaic.Lib.Exec
public import Idealize.ShloMosaic.Lib.Pipeline.Value

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords)
  (arg3 : Memref sig .tc .vmem S2048x256 .bf16) (harg3 : arg3.IsWhole)
  (arg4 : Memref sig .tc .vmem S8192x128 .bf16) (harg4 : arg4.IsWhole)
  (arg5 : Memref sig .tc .vmem S8192x128 .bf16) (harg5 : arg5.IsWhole)
  (arg6 : Memref sig .tc .vmem S8192x128 .bf16) (harg6 : arg6.IsWhole)
  (arg7 : Memref sig .tc .vmem S2048x128 .bf16) (harg7 : arg7.IsWhole)
  (arg8 : Memref sig .tc .vmem S1024x2048 .f32) (harg8 : arg8.IsWhole)
  (arg9 : Memref sig .tc .vmem S1024x2048 .f32) (harg9 : arg9.IsWhole)
  (arg10 : Memref sig .tc .vmem S1x2048 .f32) (harg10 : arg10.IsWhole)
  (arg11 : Memref sig .tc .vmem S1x2048 .f32) (harg11 : arg11.IsWhole)
  (arg12 : Memref sig .tc .vmem S128x2048 .f32) (harg12 : arg12.IsWhole)
  (arg13 : Memref sig .tc .vmem S256x2048 .bf16) (harg13 : arg13.IsWhole)

variable (X4 : Vec F S8192x128 .bf16) (X5 : Vec F S8192x128 .bf16) (X6 : Vec F S8192x128 .bf16) (Q : Vec F S256x2048 .bf16)
  (SA SB : Vec F S1024x2048 .f32) (M L : Vec F S1x2048 .f32) (A : Vec F S128x2048 .f32)

/-- The core owns the memref at full share, its contents the given vector. -/
abbrev own {S : Shape} {e : EltTy} (m : Memref sig .tc .vmem S e) (X : Vec F S e) : sProp 𝕄 := owns (c : Thread nD τ) m fullShare X

/-- Rows `off 0 …` of a key or value block, as a tile of 1024 rows. -/
def tile (X : Vec F S8192x128 .bf16) (off : Fin 2 → Nat) (h : ∀ a, off a + S1024x128.size a ≤ S8192x128.size a) : Vec F S1024x128 .bf16 :=
  View.ld X (Rect.unit (s := S8192x128) off S1024x128.size h)

theorem zero2 : (![0, 0] : Fin 2 → Nat) = fun _ => 0 := by
  funext a; fin_cases a <;> rfl

section Whole
variable {Val : EltTy → Type} [∀ e, Nonempty (Val e)] {κ : Kind} {sp : Space} {S : Shape} {e : EltTy}

/-- A view whose last write covered it whole reads that write's payload. -/
theorem read_full (v : View sig κ sp S e) (f : v.ty.Contents Val) {off : Fin S.rank → Nat} (h : off = fun _ => 0)
    (inb : ∀ a, off a + S.size a ≤ S.size a) (w : S.Idx → Val e) (P : List (View.Piece Val S e)) :
    v.read Val (v.writes Val f (⟨Rect.unit off S.size inb, w⟩ :: P)) = w := by
  rw [View.read_writes_eq_canon v f _ (fun y => ⟨_, List.mem_cons_self, by
    subst h; show y ∈ (Rect.whole S).set; rw [Rect.set_whole]; exact Finset.mem_univ y⟩), View.canon_cons_unit_zero h]

/-- A load of a whole buffer the last write of which covered it reads that write's payload. -/
theorem readCov_full (v : View sig κ sp S e) {off : Fin S.rank → Nat} (h : off = fun _ => 0)
    (inb : ∀ a, off a + S.size a ≤ S.size a) (w : S.Idx → Val e) (P : List (View.Piece Val S e)) :
    v.readCov (⟨Rect.unit off S.size inb, w⟩ :: P) (Rect.unit off S.size inb).toLoadRect = w := by
  rw [View.readCov_eq_canon_ld _ _ _ (fun y => ⟨_, List.mem_cons_self, by
    subst h; show y ∈ (Rect.whole S).set; rw [Rect.set_whole]; exact Finset.mem_univ y⟩), View.canon_cons_unit_zero h, View.ld_unit_zero h]

/-- A load of a whole buffer reads its contents. -/
theorem readAt_full (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]
end Whole

/-- What the loop carries: a tile of scores (keys by queries), the running maximum, the running sum and the running output. -/
structure St (F : FTy → Type) where
  S : Vec F S1024x2048 .f32
  M : Vec F S1x2048 .f32
  L : Vec F S1x2048 .f32
  A : Vec F S128x2048 .f32

/-- The scores of a key tile against all queries of the block. -/
def score (K R : Vec F S1024x128 .bf16) (Q : Vec F S256x2048 .bf16) : Vec F S1024x2048 .f32 := k0_pay4 K R Q
/-- The running maximum after a tile of scores. -/
def stepM (S : Vec F S1024x2048 .f32) (M : Vec F S1x2048 .f32) : Vec F S1x2048 .f32 := k0_pay12 (k0_pay6 S M)
/-- The running sum after a tile of scores. -/
def stepL (S : Vec F S1024x2048 .f32) (M L : Vec F S1x2048 .f32) : Vec F S1x2048 .f32 := k0_pay10 (k0_pay8 S M) (k0_pay9 S M L)
/-- The running output after a tile of scores and its values. -/
def stepA (V : Vec F S1024x128 .bf16) (S : Vec F S1024x2048 .f32) (M : Vec F S1x2048 .f32) (A : Vec F S128x2048 .f32) : Vec F S128x2048 .f32 :=
  k0_pay11 (k0_pay5 V) (k0_pay7 S M) (k0_pay8 S M) A

theorem pay13_eq (K R : Vec F S1024x128 .bf16) (Q : Vec F S256x2048 .bf16) : k0_pay13 K R Q = score K R Q := rfl
theorem pay17_eq (S : Vec F S1024x2048 .f32) (M L : Vec F S1x2048 .f32) : k0_pay17 S M L = stepL S M L := rfl
theorem pay18_eq (V : Vec F S1024x128 .bf16) (S : Vec F S1024x2048 .f32) (M : Vec F S1x2048 .f32) (A : Vec F S128x2048 .f32) :
    k0_pay18 V S M A = stepA V S M A := rfl
theorem pay19_eq (S : Vec F S1024x2048 .f32) (M : Vec F S1x2048 .f32) : k0_pay19 S M = stepM S M := rfl

/-- One trip: the tile carried in, then the tile it computes. -/
def tripSt (k : Fin (k0_t1_loop i).trips) (s : St F) : St F :=
  let S' := score (tile X4 (k0_off1 i k 0#32) (k0_off1_inb i k 0)) (tile X5 (k0_off1 i k 0#32) (k0_off1_inb i k 0)) Q
  let V0 := tile X6 (k0_off2 i k 0#32) (k0_off2_inb i k 0)
  let V1 := tile X6 (k0_off2 i k 1#32) (k0_off2_inb i k 1)
  { S := score (tile X4 (k0_off1 i k 1#32) (k0_off1_inb i k 1)) (tile X5 (k0_off1 i k 1#32) (k0_off1_inb i k 1)) Q
    M := stepM S' (stepM s.S s.M)
    L := stepL S' (stepM s.S s.M) (stepL s.S s.M s.L)
    A := stepA V1 S' (stepM s.S s.M) (stepA V0 s.S s.M s.A) }

/-- What the loop owns: the four blocks it reads, the carried state, and the second score slot at anything. -/
def Inv (s : St F) : sProp 𝕄 :=
  iprop(own c arg4 X4 ∗ own c arg5 X5 ∗ own c arg6 X6 ∗ own c arg13 Q
    ∗ own c arg8 s.S ∗ (∃ x, own c arg9 x) ∗ own c arg10 s.M ∗ own c arg11 s.L ∗ own c arg12 s.A)

theorem trip_run (E : Set ℕ) (k : Fin (k0_t1_loop i).trips) (arg2 acc : BitVec 32) (s : St F) :
    Inv c arg4 arg5 arg6 arg8 arg9 arg10 arg11 arg12 arg13 X4 X5 X6 Q s
    ⊢ wp Idealize.ShloMosaic.frame (wpE (defs₀ (F := F)) Variants.none (c : Thread nD τ) none) E
        (k0_t1_body (F := F) i arg3 harg3 arg4 harg4 arg5 harg5 arg6 harg6 arg7 harg7 arg8 harg8 arg9 harg9 arg10 harg10 arg11 harg11 arg12 harg12 arg13 harg13 arg2 k acc)
        (fun _ => Inv c arg4 arg5 arg6 arg8 arg9 arg10 arg11 arg12 arg13 X4 X5 X6 Q (tripSt i X4 X5 X6 Q k s)) := by
  unfold Inv own owns k0_t1_body
  iintro ⟨⟨%f4, %h4, H4⟩, ⟨%f5, %h5, H5⟩, ⟨%f6, %h6, H6⟩, ⟨%f13, %h13, H13⟩, ⟨%f8, %h8, H8⟩, ⟨%x9, %f9, %h9, H9⟩, ⟨%f10, %h10, H10⟩, ⟨%f11, %h11, H11⟩, ⟨%f12, %h12, H12⟩⟩
  subst h4 h5 h6 h13
  sl_exec
  sl_step
  have a13 : View.readAt (Elt F) arg13.view (Rect.unit ![0, 0] S256x2048.size inb_S256x2048_S256x2048_0_0).toLoadRect f13 = arg13.view.read (Elt F) f13 :=
    readAt_full _ _ zero2 _
  have a8 : View.readAt (Elt F) arg8.view (Rect.unit ![0, 0] S1024x2048.size inb_S1024x2048_S1024x2048_0_0).toLoadRect f8 = s.S :=
    (readAt_full _ _ zero2 _).trans h8
  have a10 : View.readAt (Elt F) arg10.view (Rect.unit ![0, 0] S1x2048.size inb_S1x2048_S1x2048_0_0).toLoadRect f10 = s.M :=
    (readAt_full _ _ zero2 _).trans h10
  have a11 : View.readAt (Elt F) arg11.view (Rect.unit ![0, 0] S1x2048.size inb_S1x2048_S1x2048_0_0).toLoadRect f11 = s.L :=
    (readAt_full _ _ zero2 _).trans h11
  have a12 : View.readAt (Elt F) arg12.view (Rect.unit ![0, 0] S128x2048.size inb_S128x2048_S128x2048_0_0).toLoadRect f12 = s.A :=
    (readAt_full _ _ zero2 _).trans h12
  have b9 : trip_run.sl.v335 c i arg4 arg5 arg9 arg13 k f4 f5 f13
      = score (tile (arg4.view.read (Elt F) f4) (k0_off1 i k 0#32) (k0_off1_inb i k 0)) (tile (arg5.view.read (Elt F) f5) (k0_off1 i k 0#32) (k0_off1_inb i k 0)) (arg13.view.read (Elt F) f13) :=
    (readCov_full _ zero2 _ _ _).trans (congrArg (k0_pay4 _ _) a13)
  have b10 : trip_run.sl.v336 c arg8 arg10 f8 f10 = stepM s.S s.M :=
    (readCov_full _ zero2 _ _ _).trans (congrArg k0_pay12 (congrArg₂ k0_pay6 a8 a10))
  have b11 : trip_run.sl.v345 c arg8 arg10 arg11 f8 f10 f11 = stepL s.S s.M s.L :=
    (readCov_full _ zero2 _ _ _).trans (congrArg₂ k0_pay10 (congrArg₂ k0_pay8 a8 a10) (congr (congrArg₂ k0_pay9 a8 a10) a11))
  have b12 : trip_run.sl.v355 c i arg6 arg8 arg10 arg12 k f6 f8 f10 f12 = stepA (tile (arg6.view.read (Elt F) f6) (k0_off2 i k 0#32) (k0_off2_inb i k 0)) s.S s.M s.A :=
    (readCov_full _ zero2 _ _ _).trans (congr (congr (congrArg (k0_pay11 _) (congrArg₂ k0_pay7 a8 a10)) (congrArg₂ k0_pay8 a8 a10)) a12)
  isplitl [H4]
  · iexists _; isplitr
    rotate_left
    · iexact H4
    · ipureintro; exact rfl
  isplitl [H5]
  · iexists _; isplitr
    rotate_left
    · iexact H5
    · ipureintro; exact rfl
  isplitl [H6]
  · iexists _; isplitr
    rotate_left
    · iexact H6
    · ipureintro; exact rfl
  isplitl [H13]
  · iexists _; isplitr
    rotate_left
    · iexact H13
    · ipureintro; exact rfl
  isplitl [H8]
  · iexists _; isplitr
    rotate_left
    · iexact H8
    · ipureintro; exact ((read_full _ _ zero2 _ _ _).trans (congrArg (k0_pay13 _ _) a13))
  isplitl [H9]
  · iexists (arg9.view.read (Elt F) (arg9.view.writes (Elt F) f9 (trip_run.sl.H9_1 c i arg4 arg5 arg13 k f4 f5 f13))); iexists _; isplitr
    rotate_left
    · iexact H9
    · ipureintro; exact rfl
  isplitl [H10]
  · iexists _; isplitr
    rotate_left
    · iexact H10
    · ipureintro; exact ((read_full _ _ zero2 _ _ _).trans (congrArg₂ k0_pay19 b9 b10))
  isplitl [H11]
  · iexists _; isplitr
    rotate_left
    · iexact H11
    · ipureintro; exact ((read_full _ _ zero2 _ _ _).trans (congr (congrArg₂ k0_pay17 b9 b10) b11))
  · iexists _; isplitr
    rotate_left
    · iexact H12
    · ipureintro; exact ((read_full _ _ zero2 _ _ _).trans (congr (congr (congrArg (k0_pay18 _) b9) b10) b12))

end Cert.KernelIdeal.Run
end
-- ==== Proof.Body.lean ====
module

public import proofs.«01_k».proof.Proof.Trip
public import Idealize.ShloMosaic.Lib.LoopRemainder

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords)
  (arg3 : Memref sig .tc .vmem S2048x256 .bf16) (harg3 : arg3.IsWhole)
  (arg4 : Memref sig .tc .vmem S8192x128 .bf16) (harg4 : arg4.IsWhole)
  (arg5 : Memref sig .tc .vmem S8192x128 .bf16) (harg5 : arg5.IsWhole)
  (arg6 : Memref sig .tc .vmem S8192x128 .bf16) (harg6 : arg6.IsWhole)
  (arg7 : Memref sig .tc .vmem S2048x128 .bf16) (harg7 : arg7.IsWhole)
  (arg8 : Memref sig .tc .vmem S1024x2048 .f32) (harg8 : arg8.IsWhole)
  (arg9 : Memref sig .tc .vmem S1024x2048 .f32) (harg9 : arg9.IsWhole)
  (arg10 : Memref sig .tc .vmem S1x2048 .f32) (harg10 : arg10.IsWhole)
  (arg11 : Memref sig .tc .vmem S1x2048 .f32) (harg11 : arg11.IsWhole)
  (arg12 : Memref sig .tc .vmem S128x2048 .f32) (harg12 : arg12.IsWhole)
  (arg13 : Memref sig .tc .vmem S256x2048 .bf16) (harg13 : arg13.IsWhole)

variable (X3 : Vec F S2048x256 .bf16) (X4 X5 X6 : Vec F S8192x128 .bf16) (Q : Vec F S256x2048 .bf16)

/-- The transposed query block. -/
def qT : Vec F S256x2048 .bf16 := k0_pay36 X3

/-- The state on entry to the loop: the first tile's scores; nothing summed. -/
def initSt : St F :=
  { S := score (View.ld X4 (Rect.unit (s := S8192x128) ![0, 0] S1024x128.size inb_S8192x128_S1024x128_0_0))
      (View.ld X5 (Rect.unit (s := S8192x128) ![0, 0] S1024x128.size inb_S8192x128_S1024x128_0_0)) (qT X3)
    M := k0_pay37
    L := k0_pay38
    A := k0_pay39 }

theorem pay40_eq (K R : Vec F S1024x128 .bf16) (Q : Vec F S256x2048 .bf16) : k0_pay40 K R Q = score K R Q := rfl

theorem part7_run (E : Set ℕ) :
    (iprop(own c arg3 X3 ∗ own c arg4 X4 ∗ own c arg5 X5 ∗ own c arg6 X6
      ∗ (∃ x, own c arg8 x) ∗ (∃ x, own c arg9 x) ∗ (∃ x, own c arg10 x) ∗ (∃ x, own c arg11 x) ∗ (∃ x, own c arg12 x) ∗ (∃ x, own c arg13 x)) : sProp 𝕄)
    ⊢ wp Idealize.ShloMosaic.frame (wpE (defs₀ (F := F)) Variants.none (c : Thread nD τ) none) E
        (k0_part7 (F := F) i arg3 harg3 arg4 harg4 arg5 harg5 arg6 harg6 arg7 harg7 arg8 harg8 arg9 harg9 arg10 harg10 arg11 harg11 arg12 harg12 arg13 harg13)
        (fun r => iprop(own c arg3 X3 ∗ Inv c arg4 arg5 arg6 arg8 arg9 arg10 arg11 arg12 arg13 X4 X5 X6 (qT X3) (initSt X3 X4 X5))) := by
  rw [k0_part7_eq_skeleton]
  unfold Inv own owns k0_part7_skel
  iintro ⟨⟨%f3, %h3, H3⟩, ⟨%f4, %h4, H4⟩, ⟨%f5, %h5, H5⟩, ⟨%f6, %h6, H6⟩, ⟨%x8, %f8, %h8, H8⟩, ⟨%x9, %f9, %h9, H9⟩, ⟨%x10, %f10, %h10, H10⟩, ⟨%x11, %f11, %h11, H11⟩, ⟨%x12, %f12, %h12, H12⟩, ⟨%x13, %f13, %h13, H13⟩⟩
  subst h3 h4 h5 h6
  sl_exec
  sl_step
  have a3 : View.readAt (Elt F) arg3.view (Rect.unit ![0, 0] S2048x256.size inb_S2048x256_S2048x256_0_0).toLoadRect f3 = arg3.view.read (Elt F) f3 :=
    readAt_full _ _ zero2 _
  isplitl [H3]
  · iexists _; isplitr
    rotate_left
    · iexact H3
    · ipureintro; exact rfl
  isplitl [H4]
  · iexists _; isplitr
    rotate_left
    · iexact H4
    · ipureintro; exact rfl
  isplitl [H5]
  · iexists _; isplitr
    rotate_left
    · iexact H5
    · ipureintro; exact rfl
  isplitl [H6]
  · iexists _; isplitr
    rotate_left
    · iexact H6
    · ipureintro; exact rfl
  isplitl [H13]
  · iexists _; isplitr
    rotate_left
    · iexact H13
    · ipureintro; exact (read_full _ _ zero2 _ _ _).trans (congrArg k0_pay36 a3)
  isplitl [H8]
  · iexists _; isplitr
    rotate_left
    · iexact H8
    · ipureintro; exact (read_full _ _ zero2 _ _ _).trans (congrArg (k0_pay40 _ _) ((readCov_full _ zero2 _ _ _).trans (congrArg k0_pay36 a3)))
  isplitl [H9]
  · iexists x9, f9; isplitr
    · ipureintro; exact h9
    · iexact H9
  isplitl [H10]
  · iexists _; isplitr
    rotate_left
    · iexact H10
    · ipureintro; exact read_full _ _ zero2 _ _ _
  isplitl [H11]
  · iexists _; isplitr
    rotate_left
    · iexact H11
    · ipureintro; exact read_full _ _ zero2 _ _ _
  · iexists _; isplitr
    rotate_left
    · iexact H12
    · ipureintro; exact read_full _ _ zero2 _ _ _

/-- The state before trip `n`. -/
def stAt (s : St F) : ℕ → St F
  | 0 => s
  | n + 1 => if h : n < (k0_t1_loop i).trips then tripSt i X4 X5 X6 Q ⟨n, h⟩ (stAt s n) else stAt s n

/-- The state after the loop. -/
def endSt : St F := stAt i X4 X5 X6 (qT X3) (initSt X3 X4 X5) (k0_t1_loop i).trips

/-- The scores of the last key tile against the second half of the queries. -/
def score1 : Vec F S1024x1024 .f32 :=
  k0_pay41 (tile X4 (k0_off5 i) (k0_off5_inb i)) (tile X5 (k0_off5 i) (k0_off5_inb i))
    (View.ld Q (Rect.unit (s := S256x2048) ![0, 1024] S256x1024.size inb_S256x2048_S256x1024_0_1024))

theorem part8_run (E : Set ℕ) (arg2 : BitVec 32) (s : St F) :
    Inv c arg4 arg5 arg6 arg8 arg9 arg10 arg11 arg12 arg13 X4 X5 X6 Q s
    ⊢ wp Idealize.ShloMosaic.frame (wpE (defs₀ (F := F)) Variants.none (c : Thread nD τ) none) E
        (k0_part8 (F := F) i arg3 harg3 arg4 harg4 arg5 harg5 arg6 harg6 arg7 harg7 arg8 harg8 arg9 harg9 arg10 harg10 arg11 harg11 arg12 harg12 arg13 harg13 arg2)
        (fun r => iprop(⌜r = ⟨Scalar.muli 2#32 arg2, score1 i X4 X5 Q⟩⌝ ∗ Inv c arg4 arg5 arg6 arg8 arg9 arg10 arg11 arg12 arg13 X4 X5 X6 Q (stAt i X4 X5 X6 Q s (k0_t1_loop i).trips))) := by
  rw [k0_part8_eq_skeleton]
  unfold k0_part8_skel
  rw [show s = stAt i X4 X5 X6 Q s 0 from rfl]
  iintro H
  iapply (Scf.wp_for_bind _ _ E _ _ _ (k0_t1_ok i) 0#32 _ (fun n _ => Inv c arg4 arg5 arg6 arg8 arg9 arg10 arg11 arg12 arg13 X4 X5 X6 Q (stAt i X4 X5 X6 Q s n))
    (fun k acc => (trip_run c i arg3 harg3 arg4 harg4 arg5 harg5 arg6 harg6 arg7 harg7 arg8 harg8 arg9 harg9 arg10 harg10 arg11 harg11 arg12 harg12 arg13 harg13 X4 X5 X6 Q E k arg2 acc (stAt i X4 X5 X6 Q s k.val)).trans
      (wp_mono _ _ _ fun _ => by rw [stAt, dif_pos k.isLt]))) $$ H
  iintro %acc H
  iapply (Scf.wp_for_bind _ _ E _ _ _ (k0_t2_ok i) acc _ (fun n _ => Inv c arg4 arg5 arg6 arg8 arg9 arg10 arg11 arg12 arg13 X4 X5 X6 Q (stAt i X4 X5 X6 Q s (k0_t1_loop i).trips))
    (fun k _ => (Scf.rem_no_trip _ _ k).elim)) $$ H
  iintro %acc' H
  unfold Inv own owns
  icases H with ⟨⟨%f4, %h4, H4⟩, ⟨%f5, %h5, H5⟩, ⟨%f6, %h6, H6⟩, ⟨%f13, %h13, H13⟩, H8, H9, H10, H11, H12⟩
  sl_exec
  sl_step
  isplitr
  · ipureintro
    have a13 : View.readAt (Elt F) arg13.view (Rect.unit (s := S256x2048) ![0, 1024] S256x1024.size inb_S256x2048_S256x1024_0_1024).toLoadRect f13
        = View.ld Q (Rect.unit (s := S256x2048) ![0, 1024] S256x1024.size inb_S256x2048_S256x1024_0_1024) := by rw [View.readAt_eq_ld, h13]
    subst h4 h5
    unfold score1
    rw [← a13]; rfl
  isplitl [H4]
  · iexists _; isplitr
    rotate_left
    · iexact H4
    · ipureintro; exact h4
  isplitl [H5]
  · iexists _; isplitr
    rotate_left
    · iexact H5
    · ipureintro; exact h5
  isplitl [H6]
  · iexists _; isplitr
    rotate_left
    · iexact H6
    · ipureintro; exact h6
  isplitl [H13]
  · iexists _; isplitr
    rotate_left
    · iexact H13
    · ipureintro; exact h13
  isplitl [H8]; · iexact H8
  isplitl [H9]; · iexact H9
  isplitl [H10]; · iexact H10
  isplitl [H11]; · iexact H11
  iexact H12

/-- The column numbers of a full score tile, and of a half. -/
def io2048 : IVec S1024x2048 32 := iota .tc S1024x2048 32 [1] iota_S1024x2048_d1_w32
def io1024 : IVec S1024x1024 32 := iota .tc S1024x1024 32 [1] iota_S1024x1024_d1_w32

/-- The first diagonal tile, masked, over all queries: maximum, sum, output. -/
def dM (S : Vec F S1024x2048 .f32) (M : Vec F S1x2048 .f32) : Vec F S1x2048 .f32 :=
  k0_pay54 (k0_pay48 k0_pay43 io2048 k0_pay44 k0_pay45 k0_pay46 S M)
def dL (S : Vec F S1024x2048 .f32) (M L : Vec F S1x2048 .f32) : Vec F S1x2048 .f32 :=
  k0_pay51 k0_pay43 io2048 k0_pay44 k0_pay45 k0_pay46 S M L
def dA (V : Vec F S1024x128 .bf16) (S : Vec F S1024x2048 .f32) (M : Vec F S1x2048 .f32) (A : Vec F S128x2048 .f32) : Vec F S128x2048 .f32 :=
  k0_pay53 (k0_pay52 k0_pay43 io2048 k0_pay44 k0_pay45 k0_pay46 V S M A)

/-- The second diagonal tile, masked, over the second half of the queries: sum, output. -/
def eL (S : Vec F S1024x1024 .f32) (M L : Vec F S1x1024 .f32) : Vec F S1x1024 .f32 :=
  k0_pay63 k0_pay55 io1024 64#32 k0_pay56 k0_pay57 1#32 S M L
def eA (V : Vec F S1024x128 .bf16) (S : Vec F S1024x1024 .f32) (M : Vec F S1x1024 .f32) (A : Vec F S128x1024 .f32) : Vec F S128x1024 .f32 :=
  k0_pay1 (k0_pay58 V) (k0_pay61 k0_pay55 io1024 64#32 k0_pay56 k0_pay57 1#32 S M)
    (k0_pay64 k0_pay55 io1024 64#32 k0_pay56 k0_pay57 1#32 S M) (constant S128x1024 .f32 0x00000000#32) A

/-- The second half of a row of queries, and of an output block. -/
abbrev rHi1 : Rect S1x2048 := Rect.unit (s := S1x2048) ![0, 1024] S1x1024.size inb_S1x2048_S1x1024_0_1024
abbrev rHi128 : Rect S128x2048 := Rect.unit (s := S128x2048) ![0, 1024] S128x1024.size inb_S128x2048_S128x1024_0_1024
abbrev rAll1 : Rect S1x2048 := Rect.unit (s := S1x2048) ![0, 0] S1x2048.size inb_S1x2048_S1x2048_0_0
abbrev rAll128 : Rect S128x2048 := Rect.unit (s := S128x2048) ![0, 0] S128x2048.size inb_S128x2048_S128x2048_0_0

/-- The sum at the end, and the output before it is divided, from the state after the loop. -/
def finL (S1 : Vec F S1024x1024 .f32) (s : St F) : Vec F S1x2048 .f32 :=
  View.canon [⟨rHi1, eL S1 (View.ld (dM s.S s.M) rHi1) (View.ld (dL s.S s.M s.L) rHi1)⟩, ⟨rAll1, dL s.S s.M s.L⟩]
def finA (V0 V1 : Vec F S1024x128 .bf16) (S1 : Vec F S1024x1024 .f32) (s : St F) : Vec F S128x2048 .f32 :=
  View.canon [⟨rHi128, eA V1 S1 (View.ld (dM s.S s.M) rHi1) (View.ld (dA V0 s.S s.M s.A) rHi128)⟩, ⟨rAll128, dA V0 s.S s.M s.A⟩]

/-- The block the body leaves. -/
def outV : Vec F S2048x128 .bf16 :=
  k0_pay3 (finA (tile X6 (k0_off6 i 0#32) (k0_off6_inb i 0)) (tile X6 (k0_off6 i 1#32) (k0_off6_inb i 1)) (k0_pay42 (score1 i X4 X5 (qT X3))) (endSt i X3 X4 X5 X6))
    (finL (k0_pay42 (score1 i X4 X5 (qT X3))) (endSt i X3 X4 X5 X6))

section Cover
variable {Val : EltTy → Type} [∀ e, Nonempty (Val e)] {κ : Kind} {sp : Space} {S : Shape} {e : EltTy}

/-- A load of part of a buffer the last write of which covered it reads that part of the payload. -/
theorem readCov_part (v : View sig κ sp S e) {off : Fin S.rank → Nat} (h : off = fun _ => 0)
    (inb : ∀ a, off a + S.size a ≤ S.size a) (w : S.Idx → Val e) (P : List (View.Piece Val S e)) (r : Rect S) :
    v.readCov (⟨Rect.unit off S.size inb, w⟩ :: P) r.toLoadRect = View.ld w r := by
  rw [View.readCov_eq_canon_ld _ _ _ (fun y => ⟨_, List.mem_cons_self, by
    subst h; show y ∈ (Rect.whole S).set; rw [Rect.set_whole]; exact Finset.mem_univ y⟩), View.canon_cons_unit_zero h]

/-- A load of a whole buffer written whole and then in part reads the part over the whole. -/
theorem readCov_two (v : View sig κ sp S e) {off : Fin S.rank → Nat} (h : off = fun _ => 0)
    (inb inb' : ∀ a, off a + S.size a ≤ S.size a) (w : S.Idx → Val e) (p : View.Piece Val S e) :
    v.readCov [p, ⟨Rect.unit off S.size inb, w⟩] (Rect.unit off S.size inb').toLoadRect = View.canon [p, ⟨Rect.unit off S.size inb, w⟩] := by
  rw [View.readCov_eq_canon_ld _ _ _ (fun y => ⟨⟨Rect.unit off S.size inb, w⟩, List.mem_cons_of_mem _ (List.mem_singleton_self _), by
    subst h; show y ∈ (Rect.whole S).set; rw [Rect.set_whole]; exact Finset.mem_univ y⟩), View.ld_unit_zero h]

/-- A load of what the last write wrote reads its payload. -/
theorem readCov_self (v : View sig κ sp S e) (r : Rect S) (w : r.shape.Idx → Val e) (P : List (View.Piece Val S e)) :
    v.readCov (⟨r, w⟩ :: P) r.toLoadRect = w := by
  rw [View.readCov_eq_canon v _ _ (fun j => ⟨_, List.mem_cons_self, r.idx_mem j⟩)]
  exact funext fun j => View.canon_cons_emb r w P j
end Cover

theorem body_run (E : Set ℕ) :
    (iprop(own c arg3 X3 ∗ own c arg4 X4 ∗ own c arg5 X5 ∗ own c arg6 X6 ∗ (∃ x, own c arg7 x)
      ∗ (∃ x, own c arg8 x) ∗ (∃ x, own c arg9 x) ∗ (∃ x, own c arg10 x) ∗ (∃ x, own c arg11 x) ∗ (∃ x, own c arg12 x) ∗ (∃ x, own c arg13 x)) : sProp 𝕄)
    ⊢ wp Idealize.ShloMosaic.frame (wpE (defs₀ (F := F)) Variants.none (c : Thread nD τ) none) E
        (cc0_mla_attention (F := F) i arg3 harg3 arg4 harg4 arg5 harg5 arg6 harg6 arg7 harg7 arg8 harg8 arg9 harg9 arg10 harg10 arg11 harg11 arg12 harg12 arg13 harg13)
        (fun r => iprop(own c arg3 X3 ∗ own c arg4 X4 ∗ own c arg5 X5 ∗ own c arg6 X6 ∗ own c arg7 (outV i X3 X4 X5 X6)
      ∗ (∃ x, own c arg8 x) ∗ (∃ x, own c arg9 x) ∗ (∃ x, own c arg10 x) ∗ (∃ x, own c arg11 x) ∗ (∃ x, own c arg12 x) ∗ (∃ x, own c arg13 x))) := by
  rw [cc0_mla_attention_eq_skeleton]
  unfold cc0_mla_attention_skel
  rw [wp_bind]
  iintro ⟨H3, H4, H5, H6, H7, H⟩
  iapply (wp_wand_r Idealize.ShloMosaic.frame (wpE (defs₀ (F := F)) Variants.none (c : Thread nD τ) none) E)
  isplitl [H3 H4 H5 H6 H]
  · iapply (part7_run c i arg3 harg3 arg4 harg4 arg5 harg5 arg6 harg6 arg7 harg7 arg8 harg8 arg9 harg9 arg10 harg10 arg11 harg11 arg12 harg12 arg13 harg13 X3 X4 X5 X6 E)
    isplitl [H3]; · iexact H3
    isplitl [H4]; · iexact H4
    isplitl [H5]; · iexact H5
    isplitl [H6]; · iexact H6
    iexact H
  iintro %arg2 ⟨H3, H⟩
  rw [wp_bind]
  iapply (wp_wand_r Idealize.ShloMosaic.frame (wpE (defs₀ (F := F)) Variants.none (c : Thread nD τ) none) E)
  isplitl [H]
  · iapply (part8_run c i arg3 harg3 arg4 harg4 arg5 harg5 arg6 harg6 arg7 harg7 arg8 harg8 arg9 harg9 arg10 harg10 arg11 harg11 arg12 harg12 arg13 harg13 X4 X5 X6 _ E arg2)
    iexact H
  iintro %r ⟨%hr, H⟩
  subst hr
  unfold Inv own owns
  icases H with ⟨⟨%f4, %h4, H4⟩, ⟨%f5, %h5, H5⟩, ⟨%f6, %h6, H6⟩, ⟨%f13, %h13, H13⟩, ⟨%f8, %h8, H8⟩, ⟨%x9, %f9, %h9, H9⟩, ⟨%f10, %h10, H10⟩, ⟨%f11, %h11, H11⟩, ⟨%f12, %h12, H12⟩⟩
  icases H7 with ⟨%x7, %f7, %h7, H7⟩
  sl_exec
  sl_step
  have a8 : View.readAt (Elt F) arg8.view (Rect.unit ![0, 0] S1024x2048.size inb_S1024x2048_S1024x2048_0_0).toLoadRect f8 = (endSt i X3 X4 X5 X6).S :=
    (readAt_full _ _ zero2 _).trans h8
  have a10 : View.readAt (Elt F) arg10.view (Rect.unit ![0, 0] S1x2048.size inb_S1x2048_S1x2048_0_0).toLoadRect f10 = (endSt i X3 X4 X5 X6).M :=
    (readAt_full _ _ zero2 _).trans h10
  have a11 : View.readAt (Elt F) arg11.view (Rect.unit ![0, 0] S1x2048.size inb_S1x2048_S1x2048_0_0).toLoadRect f11 = (endSt i X3 X4 X5 X6).L :=
    (readAt_full _ _ zero2 _).trans h11
  have a12 : View.readAt (Elt F) arg12.view (Rect.unit ![0, 0] S128x2048.size inb_S128x2048_S128x2048_0_0).toLoadRect f12 = (endSt i X3 X4 X5 X6).A :=
    (readAt_full _ _ zero2 _).trans h12
  have a6 : ∀ (off : Fin 2 → Nat) (h : ∀ a, off a + S1024x128.size a ≤ S8192x128.size a),
      View.readAt (Elt F) arg6.view (Rect.unit (s := S8192x128) off S1024x128.size h).toLoadRect f6 = tile X6 off h :=
    fun off h => by rw [View.readAt_eq_ld, h6]; rfl
  have b9 : body_run.sl.v218 c i arg9 X3 X4 X5 = k0_pay42 (score1 i X4 X5 (qT X3)) := readCov_self _ _ _ _
  have m : k0_pay48 body_run.sl.v96 body_run.sl.v97 (divsi body_run.sl.v97 body_run.sl.v73) body_run.sl.v113 body_run.sl.v73 = k0_pay48 (F := F) k0_pay43 io2048 k0_pay44 k0_pay45 k0_pay46 := rfl
  have bM : body_run.sl.v221 c arg8 arg10 f8 f10 = View.ld (dM (endSt i X3 X4 X5 X6).S (endSt i X3 X4 X5 X6).M) rHi1 := by
    rw [← a8, ← a10]; exact readCov_part _ zero2 _ _ _ _
  have bL : body_run.sl.v230 c arg8 arg10 arg11 f8 f10 f11 = View.ld (dL (endSt i X3 X4 X5 X6).S (endSt i X3 X4 X5 X6).M (endSt i X3 X4 X5 X6).L) rHi1 := by
    rw [← a8, ← a10, ← a11]; exact readCov_part _ zero2 _ _ _ _
  have bA : body_run.sl.v240 c i arg6 arg8 arg10 arg12 f6 f8 f10 f12 = View.ld (dA (tile X6 (k0_off6 i 0#32) (k0_off6_inb i 0)) (endSt i X3 X4 X5 X6).S (endSt i X3 X4 X5 X6).M (endSt i X3 X4 X5 X6).A) rHi128 := by
    rw [← a8, ← a10, ← a12, ← a6]; exact readCov_part _ zero2 _ _ _ _
  have cL : body_run.sl.v251 c i arg8 arg9 arg10 arg11 X3 X4 X5 f8 f10 f11 = finL (k0_pay42 (score1 i X4 X5 (qT X3))) (endSt i X3 X4 X5 X6) := by
    unfold finL
    rw [← bM, ← bL, ← b9, ← a8, ← a10, ← a11]
    exact readCov_two _ zero2 _ _ _ _
  have cA : body_run.sl.v250 c i arg6 arg8 arg9 arg10 arg12 X3 X4 X5 f6 f8 f10 f12
      = finA (tile X6 (k0_off6 i 0#32) (k0_off6_inb i 0)) (tile X6 (k0_off6 i 1#32) (k0_off6_inb i 1)) (k0_pay42 (score1 i X4 X5 (qT X3))) (endSt i X3 X4 X5 X6) := by
    unfold finA
    rw [← bM, ← bA, ← b9, ← a8, ← a10, ← a12, ← a6, ← a6]
    exact readCov_two _ zero2 _ _ _ _
  isplitl [H3]; · iexact H3
  isplitl [H4]
  · iexists _; isplitr
    rotate_left
    · iexact H4
    · ipureintro; exact h4
  isplitl [H5]
  · iexists _; isplitr
    rotate_left
    · iexact H5
    · ipureintro; exact h5
  isplitl [H6]
  · iexists _; isplitr
    rotate_left
    · iexact H6
    · ipureintro; exact h6
  isplitl [H7]
  · iexists _; isplitr
    rotate_left
    · iexact H7
    · ipureintro; exact ((read_full _ _ zero2 _ _ _).trans (congrArg₂ k0_pay3 cA cL))
  isplitl [H8]
  · iexists (View.read (Elt F) arg8.view f8); iexists _; isplitr
    rotate_left
    · iexact H8
    · ipureintro; rfl
  isplitl [H9]
  · iexists (View.read (Elt F) arg9.view (arg9.view.writes (Elt F) f9 (body_run.sl.H9_1 i X3 X4 X5))); iexists _; isplitr
    rotate_left
    · iexact H9
    · ipureintro; rfl
  isplitl [H10]
  · iexists (View.read (Elt F) arg10.view (arg10.view.writes (Elt F) f10 (⟨Rect.unit ![0, 1024] S1x1024.size inb_S1x2048_S1x1024_0_1024, k0_pay2 (body_run.sl.r_3 c i arg8 arg9 arg10 X3 X4 X5 f8 f10)⟩ :: body_run.sl.H10_1 c arg8 arg10 f8 f10))); iexists _; isplitr
    rotate_left
    · iexact H10
    · ipureintro; rfl
  isplitl [H11]
  · iexists (View.read (Elt F) arg11.view (arg11.view.writes (Elt F) f11 (body_run.sl.H11_2 c i arg8 arg9 arg10 arg11 X3 X4 X5 f8 f10 f11))); iexists _; isplitr
    rotate_left
    · iexact H11
    · ipureintro; rfl
  isplitl [H12]
  · iexists (View.read (Elt F) arg12.view (arg12.view.writes (Elt F) f12 (body_run.sl.H12_2 c i arg6 arg8 arg9 arg10 arg12 X3 X4 X5 f6 f8 f10 f12))); iexists _; isplitr
    rotate_left
    · iexact H12
    · ipureintro; rfl
  · iexists (View.read (Elt F) arg13.view f13); iexists _; isplitr
    rotate_left
    · iexact H13
    · ipureintro; rfl

end Cert.KernelIdeal.Run
end
-- ==== Proof.Whole.lean ====
module

public import proofs.«01_k».proof.Proof.Body
public import Idealize.ShloMosaic.Lib.Claim
public import Idealize.ShloMosaic.Lib.Pipeline.Kit

/-! The body's triple at every point of the grid, and the run of the whole program: what the output array and every
    argument hold at the end. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block after point `t`, from the four input blocks there. -/
def outAt (c : Dev nD) (t : Fin cfg0.N) : Vec F S2048x128 .bf16 :=
  outV (grid0.coords t) (iblk m c 0 t) (iblk m c 1 t) (iblk m c 2 t) (iblk m c 3 t)

/-- The proof data: arrays as the region finds them, inputs left alone, the output block as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q w := Pipeline.shareOf spec0 w
  owed _ := 0

theorem dats_arr (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = outAt m c t := by dsimp only [dats]

theorem found0 (c : Dev nD) (t : Fin cfg0.N) (d) : (dats m 0 c).before 0 t d = iblk m c 0 t :=
  before0_0_of m (dats m 0 c) (dats_arr m c 0) (left0 m c) t d
theorem found1 (c : Dev nD) (t : Fin cfg0.N) (d) : (dats m 0 c).before 1 t d = iblk m c 1 t :=
  before0_1_of m (dats m 0 c) (dats_arr m c 1) (left1 m c) t d
theorem found2 (c : Dev nD) (t : Fin cfg0.N) (d) : (dats m 0 c).before 2 t d = iblk m c 2 t :=
  before0_2_of m (dats m 0 c) (dats_arr m c 2) (left2 m c) t d
theorem found3 (c : Dev nD) (t : Fin cfg0.N) (d) : (dats m 0 c).before 3 t d = iblk m c 3 t :=
  before0_3_of m (dats m 0 c) (dats_arr m c 3) (left3 m c) t d

/-- What the body is given at point `t`, the windows one by one, and what it gives back. -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def returned (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at point `t`. -/
theorem point_run (c : Dev nD) (t : Fin cfg0.N) :
    given m c t ⊢ wp Idealize.ShloMosaic.frame (wpE (defs₀ (F := F)) Variants.none (c : Thread nD τ) none) Set.univ (bodyAt0 t) (fun _ => returned m c t) := by
  unfold given returned bodyAt0
  simp only [found0, found1, found2, found3]
  rw [show (dats m 0 c).Φ t.succ = (dats m 0 c).Φ t.castSucc from rfl,
    show (dats m 0 c).owesAt () t.succ = (dats m 0 c).owesAt () t.castSucc from rfl,
    left0, left1, left2, left3, left4]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩⟩
  iapply (wp_wand_r Idealize.ShloMosaic.frame (wpE (defs₀ (F := F)) Variants.none (c : Thread nD τ) none) Set.univ)
  isplitl [H0 H1 H2 H3 H4 HS0 HS1 HS2 HS3 HS4 HS5]
  · iapply (body_run c (grid0.coords t) _ _ _ _ _ _ _ _ _ _ _ _ _ _ _ _ _ _ _ _ _ _ (iblk m c 0 t) (iblk m c 1 t) (iblk m c 2 t) (iblk m c 3 t) Set.univ)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [HS4]; · iexact HS4
    iexact HS5
  iintro %r ⟨H0, H1, H2, H3, H4, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  iexact H4

theorem row_eq (t : Fin cfg0.N) :
    defs₀ (F := F) .tc cfg0.body (cfg0.bodyArgs t (cfg0.slots t)) = bodyAt0 t := by
  unfold defs₀; rw [Defs.onTc_tc]

theorem obliged (c : Dev nD) : BodyObligation (dats (F := F) m 0 c) (defs₀ (F := F)) Variants.none () Set.univ := fun t => by
  rw [bigSep_W0, bigSep_W0, row_eq]
  exact triple_restated (point_run m c t) rfl .rfl fun _ => .rfl

set_option backward.isDefEq.respectTransparency.types false in
/-- The run: every array as the proof data says, every semaphore counter at zero. -/
theorem main_run : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (obliged m c).loose) (hq := fun _ _ _ => rfl)
    (howed := fun _ _ => rfl) (V := V m) (hmain := hmain m Variants.none) (hA := dats_arr m) (hΦ := fun _ _ => rfl)

/-- The arguments end unchanged and the counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dats_arr m) ((θ_run defs _ _).mono (fun _ h => h.1) (main_run m ρ)))
    ((θ_run defs _ _).mono (fun _ h => h.2) (main_run m ρ))

end Cert.KernelIdeal.Run
end
-- ==== Proof.Twin.lean ====
module

public import proofs.«01_k».proof.Proof.Gen.Kernel
public import proofs.«01_k».proof.Proof.Gen.KernelIdeal

/-! The kernel and its idealised form are the same program text. -/

@[expose] public section
noncomputable section
namespace Cert.Twin
open Idealize.ShloMosaic
variable {F : FTy → Type} [FloatOps F]

theorem main_eq : Cert.Kernel.main (F := F) = Cert.KernelIdeal.main (F := F) := rfl

theorem rows_eq : Cert.Kernel.defs₀ (F := F) = Cert.KernelIdeal.defs₀ (F := F) := by
  unfold Cert.Kernel.defs₀ Cert.KernelIdeal.defs₀
  congr 1
  funext l a
  match l, a with
  | 0, (t, s) => rfl
  | ⟨_ + 1, h⟩, _ => exact absurd h (by omega)

theorem defs_eq : Cert.Kernel.defs (F := F) = Cert.KernelIdeal.defs (F := F) := by
  unfold Cert.Kernel.defs Cert.KernelIdeal.defs
  rw [rows_eq]
  rfl

end Cert.Twin
end
-- ==== Proof.Chunk.lean ====
module

public import Idealize.ShloMosaic.Lib.Pointwise
public import Idealize.ShloMosaic.Lib.WordArith

@[expose] public section

noncomputable section

namespace Cert.Chunk

open Idealize.ShloMosaic Idealize.ShloMosaic.WordArith

/-! A position divided by 64 with the quotient rounded down, as the two programs write it: the quotient rounded to zero,
less one where the signs differ and a remainder is left. At positions, which are not negative, it is the quotient. -/

theorem msb_of_lt {n : ℕ} (h : n < 2 ^ 31) : (BitVec.ofNat 32 n).msb = false := by
  rw [BitVec.msb_eq_decide, toNat_ofNat_of_lt n (by omega)]
  exact decide_eq_false (by omega)

theorem divsi_64 (u : ArithUnit) {n : ℕ} (h : n < 2 ^ 31) : IntOp.divsi u (BitVec.ofNat 32 n) 64#32 = BitVec.ofNat 32 (n / 64) := by
  unfold IntOp.divsi
  rw [if_neg (by rintro (h | ⟨_, h⟩) <;> revert h <;> decide), BitVec.sdiv_eq, msb_of_lt h, show (64#32).msb = false from by decide]
  apply BitVec.eq_of_toNat_eq
  show (BitVec.ofNat 32 n / 64#32).toNat = _
  rw [BitVec.toNat_udiv, toNat_ofNat_of_lt n (by omega), toNat_ofNat_of_lt (n / 64) (by omega)]
  rfl

theorem sgt_of_pos {n : ℕ} (h0 : 0 < n) (h : n < 2 ^ 31) : IntOp.cmpi .sgt (BitVec.ofNat 32 n) 0#32 = 1#1 := by
  unfold IntOp.cmpi
  rw [ofBool_eq_one_iff]
  show BitVec.slt _ _ = true
  rw [BitVec.slt_eq_decide, toInt_ofNat_small n h]
  exact decide_eq_true (by show (0 : ℤ) < n; omega)

theorem slt_zero {n : ℕ} (h : n < 2 ^ 31) : IntOp.cmpi .slt (BitVec.ofNat 32 n) 0#32 = 0#1 := by
  show BitVec.ofBool (BitVec.slt _ _) = _
  rw [BitVec.slt_eq_decide, toInt_ofNat_small n h, decide_eq_false (by show ¬ ((n : ℤ) < 0); omega)]
  rfl

theorem floor_select (sg : BitVec 32) (u : ArithUnit) {n : ℕ} (h : n < 2 ^ 31) (hs : 0 < n → sg = 1#32) :
    Scalar.select (IntOp.andi (IntOp.cmpi .ne sg 1#32) (IntOp.cmpi .ne (IntOp.remsi u (BitVec.ofNat 32 n) 64#32) 0#32))
      (IntOp.subi (IntOp.divsi u (BitVec.ofNat 32 n) 64#32) 1#32) (IntOp.divsi u (BitVec.ofNat 32 n) 64#32)
      = BitVec.ofNat 32 (n / 64) := by
  have hz : IntOp.andi (IntOp.cmpi .ne sg 1#32) (IntOp.cmpi .ne (IntOp.remsi u (BitVec.ofNat 32 n) 64#32) 0#32) = 0#1 := by
    rcases Nat.eq_zero_or_pos n with h0 | h0
    · subst h0
      have : IntOp.remsi u (BitVec.ofNat 32 0) 64#32 = 0#32 := by
        unfold IntOp.remsi
        rw [if_neg (by rintro (h | ⟨_, h⟩) <;> revert h <;> decide)]
        decide
      rw [this]
      show IntOp.cmpi .ne sg 1#32 &&& 0#1 = 0#1
      exact BitVec.and_zero
    · rw [hs h0]
      show 0#1 &&& _ = 0#1
      exact BitVec.zero_and
  rw [hz, ← divsi_64 u h]
  rfl

/-- The test between two quotients. -/
theorem sle_select {a b : ℕ} (ha : a < 2 ^ 31) (hb : b < 2 ^ 31) (x y : EReal) :
    Scalar.select (IntOp.cmpi .sle (BitVec.ofNat 32 a) (BitVec.ofNat 32 b)) x y = if a ≤ b then x else y := by
  have hc : IntOp.cmpi .sle (BitVec.ofNat 32 a) (BitVec.ofNat 32 b) = BitVec.ofBool (decide (a ≤ b)) := by
    show BitVec.ofBool (BitVec.sle _ _) = _
    rw [BitVec.sle_eq_decide, toInt_ofNat_small a ha, toInt_ofNat_small b hb]
    simp
  rw [hc]
  by_cases h : a ≤ b
  · rw [if_pos h, decide_eq_true h]; rfl
  · rw [if_neg h, decide_eq_false h]; rfl

end Cert.Chunk
-- ==== Proof.Read.lean ====
module

public import proofs.«01_k».proof.Proof.Body
public import proofs.«01_k».proof.Proof.Chunk

@[expose] public section

set_option maxRecDepth 16384

noncomputable section

namespace Cert.KernelIdeal.Run

open Idealize.ShloMosaic Cert.KernelIdeal.Gen

/-! What the body's payloads hold at an index, over the extended reals. -/

theorem negInf : Ideal.ofBits FTy.f32 4286578688#32 = ⊥ := by
  simp [Ideal.ofBits, Ideal.ieee]

/-- Division by 64 rounded down, as the kernel writes it: the rounded quotient, less one where signs differ and a
remainder is left. -/
def floor64 (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

theorem floor64_eq {n : ℕ} (h : n < 2048) : floor64 (BitVec.ofNat 32 n) = BitVec.ofNat 32 (n / 64) := by
  refine Chunk.floor_select _ .vector (by omega) fun h0 => ?_
  rw [Chunk.sgt_of_pos h0 (by omega), Chunk.slt_zero (by omega)]
  rfl

/-- The kernel's test on two positions below 2048, as a choice between two values. -/
theorem chunk_select {n k : ℕ} (hn : n < 2048) (hk : k < 2048) (a b : EReal) :
    Scalar.select (IntOp.cmpi CmpIPredicate.sle (floor64 (BitVec.ofNat 32 n)) (floor64 (BitVec.ofNat 32 k))) a b
      = if n / 64 ≤ k / 64 then a else b := by
  rw [floor64_eq hn, floor64_eq hk]
  exact Chunk.sle_select (by omega) (by omega) a b

theorem stepM_apply (S : Vec Ideal S1024x2048 .f32) (M : Vec Ideal S1x2048 .f32) (j : Fin 2048) :
    stepM S M (ix2 0 j) = max (M (ix2 0 j)) (Finset.univ.fold max ⊥ fun r : Fin 1024 => S (ix2 r j)) := by
  pointwise [stepM, k0_pay12, k0_pay6]
  rw [negInf]

theorem score_apply (K R : Vec Ideal S1024x128 .bf16) (Q : Vec Ideal S256x2048 .bf16) (r : Fin 1024) (j : Fin 2048) :
    score K R Q (ix2 r j) = ∑ d : Fin 256, (if h : d.val < 128 then K (ix2 r ⟨d, h⟩) else R (ix2 r ⟨d - 128, by omega⟩)) * Q (ix2 d j) := by
  pointwise [score, k0_pay4]

theorem stepL_apply (S : Vec Ideal S1024x2048 .f32) (M L : Vec Ideal S1x2048 .f32) (j : Fin 2048) :
    stepL S M L (ix2 0 j) = Ideal.exp2 (M (ix2 0 j) - stepM S M (ix2 0 j)) * L (ix2 0 j)
      + ∑ r : Fin 1024, Ideal.exp2 (S (ix2 r j) - stepM S M (ix2 0 j)) := by
  pointwise [stepL, stepM, k0_pay12, k0_pay6, k0_pay7, k0_pay8, k0_pay9, k0_pay10]
  rfl

theorem stepA_apply (V : Vec Ideal S1024x128 .bf16) (S : Vec Ideal S1024x2048 .f32) (M : Vec Ideal S1x2048 .f32)
    (A : Vec Ideal S128x2048 .f32) (d : Fin 128) (j : Fin 2048) :
    stepA V S M A (ix2 d j) = Ideal.exp2 (M (ix2 0 j) - stepM S M (ix2 0 j)) * A (ix2 d j)
      + ∑ r : Fin 1024, V (ix2 r d) * Ideal.exp2 (S (ix2 r j) - stepM S M (ix2 0 j)) := by
  pointwise [stepA, stepM, k0_pay12, k0_pay6, k0_pay7, k0_pay8, k0_pay11, k0_pay5]
  rfl

/-- The first diagonal tile's scores, masked. -/
def mask0 (S : Vec Ideal S1024x2048 .f32) : Vec Ideal S1024x2048 .f32 :=
  k0_pay47 k0_pay43 io2048 k0_pay44 k0_pay45 k0_pay46 S

theorem dM_eq (S : Vec Ideal S1024x2048 .f32) (M : Vec Ideal S1x2048 .f32) : dM S M = stepM (mask0 S) M := rfl
theorem dL_eq (S : Vec Ideal S1024x2048 .f32) (M L : Vec Ideal S1x2048 .f32) : dL S M L = stepL (mask0 S) M L := rfl
theorem dA_eq (V : Vec Ideal S1024x128 .bf16) (S : Vec Ideal S1024x2048 .f32) (M : Vec Ideal S1x2048 .f32)
    (A : Vec Ideal S128x2048 .f32) : dA V S M A = stepA V (mask0 S) M A := rfl

theorem mask0_apply (S : Vec Ideal S1024x2048 .f32) (r : Fin 1024) (j : Fin 2048) :
    mask0 S (ix2 r j) = if r.val / 64 ≤ j.val / 64 then S (ix2 r j) else ⊥ := by
  pointwise [mask0, k0_pay47, k0_pay43, io2048, k0_pay44, k0_pay45, k0_pay46]
  rw [negInf]
  exact chunk_select (by omega) (by omega) _ _

/-! The second diagonal tile, over the second half of the queries. -/

/-- Its scores, masked. -/
def mask1 (S : Vec Ideal S1024x1024 .f32) : Vec Ideal S1024x1024 .f32 :=
  k0_pay59 k0_pay55 io1024 64#32 k0_pay56 k0_pay57 1#32 S

/-- Its maximum. -/
def eM (S : Vec Ideal S1024x1024 .f32) (M : Vec Ideal S1x1024 .f32) : Vec Ideal S1x1024 .f32 :=
  k0_pay60 k0_pay55 io1024 64#32 k0_pay56 k0_pay57 1#32 S M

theorem mask1_apply (S : Vec Ideal S1024x1024 .f32) (r : Fin 1024) (j : Fin 1024) :
    mask1 S (ix2 r j) = if r.val / 64 ≤ j.val / 64 then S (ix2 r j) else ⊥ := by
  pointwise [mask1, k0_pay59, k0_pay55, io1024, k0_pay56, k0_pay57]
  rw [negInf]
  exact chunk_select (by omega) (by omega) _ _

theorem eM_apply (S : Vec Ideal S1024x1024 .f32) (M : Vec Ideal S1x1024 .f32) (j : Fin 1024) :
    eM S M (ix2 0 j) = max (M (ix2 0 j)) (Finset.univ.fold max ⊥ fun r : Fin 1024 => mask1 S (ix2 r j)) := by
  show k0_pay60 (F := Ideal) _ _ _ _ _ _ _ _ _ = _
  unfold k0_pay60
  rw [← mask1]
  pointwise []
  rw [negInf]

theorem eL_apply (S : Vec Ideal S1024x1024 .f32) (M L : Vec Ideal S1x1024 .f32) (j : Fin 1024) :
    eL S M L (ix2 0 j) = Ideal.exp2 (M (ix2 0 j) - eM S M (ix2 0 j)) * L (ix2 0 j)
      + ∑ r : Fin 1024, Ideal.exp2 (mask1 S (ix2 r j) - eM S M (ix2 0 j)) := by
  unfold eL k0_pay63 k0_pay61 k0_pay62
  rw [← eM, ← mask1]
  pointwise []
  rfl

theorem eA_apply (V : Vec Ideal S1024x128 .bf16) (S : Vec Ideal S1024x1024 .f32) (M : Vec Ideal S1x1024 .f32)
    (A : Vec Ideal S128x1024 .f32) (d : Fin 128) (j : Fin 1024) :
    eA V S M A (ix2 d j) = Ideal.exp2 (M (ix2 0 j) - eM S M (ix2 0 j)) * A (ix2 d j)
      + ∑ r : Fin 1024, V (ix2 r d) * Ideal.exp2 (mask1 S (ix2 r j) - eM S M (ix2 0 j)) := by
  unfold eA k0_pay1 k0_pay58 k0_pay64 k0_pay61 k0_pay62
  rw [← eM, ← mask1]
  pointwise []
  rfl

theorem score1_apply (i : grid0.Coords) (X4 X5 : Vec Ideal S8192x128 .bf16) (Q : Vec Ideal S256x2048 .bf16) (r : Fin 1024) (j : Fin 1024) :
    k0_pay42 (score1 i X4 X5 Q) (ix2 r j) = ∑ d : Fin 256, (if h : d.val < 128 then tile X4 (k0_off5 i) (k0_off5_inb i) (ix2 r ⟨d, h⟩)
        else tile X5 (k0_off5 i) (k0_off5_inb i) (ix2 r ⟨d - 128, by omega⟩)) * Q (ix2 d ⟨1024 + j.val, by omega⟩) := by
  pointwise [score1, k0_pay41, k0_pay42]

theorem qT_apply (X3 : Vec Ideal S2048x256 .bf16) (d : Fin 256) (j : Fin 2048) : qT X3 (ix2 d j) = X3 (ix2 j d) := by
  pointwise [qT, k0_pay36]

theorem pay3_apply (A : Vec Ideal S128x2048 .f32) (L : Vec Ideal S1x2048 .f32) (j : Fin 2048) (d : Fin 128) :
    k0_pay3 A L (ix2 j d) = Ideal.div (A (ix2 d j)) (L (ix2 0 j)) := by
  pointwise [k0_pay3]

theorem pay37_apply (j : Fin 2048) : (k0_pay37 (F := Ideal)) (ix2 0 j) = ⊥ := by
  pointwise [k0_pay37]
  rw [negInf]
theorem pay38_apply (j : Fin 2048) : (k0_pay38 (F := Ideal)) (ix2 0 j) = 0 := by
  pointwise [k0_pay38]
theorem pay39_apply (d : Fin 128) (j : Fin 2048) : (k0_pay39 (F := Ideal)) (ix2 d j) = 0 := by
  pointwise [k0_pay39]

theorem tile_apply (X : Vec Ideal S8192x128 .bf16) (off : Fin 2 → Nat) (h) (r : Fin 1024) (d : Fin 128) (h1 : off 1 = 0) (hr : off 0 + r.val < 8192) :
    tile X off h (ix2 r d) = X (ix2 ⟨off 0 + r.val, hr⟩ d) := by
  unfold tile
  pointwise []
  refine congrArg (fun d' : Fin 128 => X (ix2 ⟨off 0 + r.val, hr⟩ d')) (Fin.ext ?_)
  show off 1 + d.val = d.val
  rw [h1, Nat.zero_add]

end Cert.KernelIdeal.Run
-- ==== Proof.Online.lean ====
module

public import Idealize.ShloMosaic.Lib.Pointwise

@[expose] public section

noncomputable section

namespace Cert.Online

open Idealize.ShloMosaic

/-! One column of scores `s 0, s 1, …` (a masked score is `⊥`, any other a real number) with the values `v 0, v 1, …`:
the running maximum, sum and weighted sum that an attention keeps while it walks the keys, and what they are
worth at the end. -/

/-- A nonnegative finite factor goes into a finite sum, whatever the terms. -/
theorem mul_sum_of_nonneg {ι : Type} (S : Finset ι) (f : ι → EReal) {c : EReal} (h0 : 0 ≤ c) (h1 : c ≠ ⊤) :
    c * ∑ k ∈ S, f k = ∑ k ∈ S, c * f k := by
  classical
  induction S using Finset.induction_on with
  | empty => simp
  | insert k S hk ih =>
    rw [Finset.sum_insert hk, Finset.sum_insert hk, EReal.left_distrib_of_nonneg_of_ne_top h0 h1, ih]

theorem exp2_nonneg (x : EReal) : 0 ≤ Ideal.exp2 x := by
  induction x with
  | bot => simp
  | top => simp
  | coe r => rw [Ideal.exp2_coe]; exact_mod_cast Real.rpow_nonneg (by norm_num) r

theorem bot_sub' (x : EReal) : (⊥ : EReal) - x = ⊥ := by rw [sub_eq_add_neg, EReal.bot_add]

/-- Rescaling: a weight taken against the old maximum, times the factor between the two maxima, is the weight taken
against the new one. -/
theorem rescale {x m : EReal} (R : ℝ) (hxm : x ≤ m) (hm : m ≠ ⊤) :
    Ideal.exp2 (m - (R : EReal)) * Ideal.exp2 (x - m) = Ideal.exp2 (x - (R : EReal)) := by
  induction x with
  | bot => rw [bot_sub', bot_sub', Ideal.exp2_bot, mul_zero]
  | top => exact absurd (top_le_iff.1 hxm) hm
  | coe r =>
    induction m with
    | bot => exact absurd (le_bot_iff.1 hxm) (EReal.coe_ne_bot r)
    | top => exact absurd rfl hm
    | coe q =>
      rw [← EReal.coe_sub, ← EReal.coe_sub, ← EReal.coe_sub, Ideal.exp2_coe, Ideal.exp2_coe, Ideal.exp2_coe, ← EReal.coe_mul]
      congr 1
      exact (Real.rpow_add (by norm_num) _ _).symm.trans (congrArg (Real.rpow 2) (by ring))

theorem exp2_ne_top {m : EReal} (R : ℝ) (hm : m ≠ ⊤) : Ideal.exp2 (m - (R : EReal)) ≠ ⊤ := by
  induction m with
  | bot => rw [bot_sub', Ideal.exp2_bot]; exact EReal.zero_ne_top
  | top => exact absurd rfl hm
  | coe q => rw [← EReal.coe_sub, Ideal.exp2_coe]; exact EReal.coe_ne_top _

/-- The three running quantities after the first `n` keys. -/
structure Good (s v : ℕ → EReal) (n : ℕ) (m l a : EReal) : Prop where
  hm : m = (Finset.range n).sup s
  hl : l = ∑ k ∈ Finset.range n, Ideal.exp2 (s k - m)
  ha : a = ∑ k ∈ Finset.range n, v k * Ideal.exp2 (s k - m)

theorem Good.zero (s v : ℕ → EReal) : Good s v 0 ⊥ 0 0 := ⟨by simp, by simp, by simp⟩

theorem sup_ne_top {s : ℕ → EReal} (hs : ∀ k, s k ≠ ⊤) (n : ℕ) : (Finset.range n).sup s ≠ ⊤ := by
  refine ne_of_lt ((Finset.sup_lt_iff (by exact bot_lt_top)).2 fun k _ => lt_top_iff_ne_top.2 (hs k))

theorem fold_eq_sup {n : ℕ} (f : Fin n → EReal) : Finset.univ.fold max ⊥ f = Finset.univ.sup f := rfl

theorem sup_range_add (s : ℕ → EReal) (n T : ℕ) :
    (Finset.range (n + T)).sup s = max ((Finset.range n).sup s) (Finset.univ.sup fun r : Fin T => s (n + r.val)) := by
  apply le_antisymm
  · refine Finset.sup_le fun k hk => ?_
    rcases Nat.lt_or_ge k n with h | h
    · exact le_max_of_le_left (Finset.le_sup (f := s) (Finset.mem_range.2 h))
    · have hk' := Finset.mem_range.1 hk
      refine le_max_of_le_right ?_
      have := Finset.le_sup (f := fun r : Fin T => s (n + r.val)) (Finset.mem_univ ⟨k - n, by omega⟩)
      simpa [Nat.add_sub_cancel' h] using this
  · refine max_le (Finset.sup_mono (Finset.range_mono (Nat.le_add_right n T))) (Finset.sup_le fun r _ => ?_)
    exact Finset.le_sup (f := s) (Finset.mem_range.2 (Nat.add_lt_add_left r.isLt n))

theorem sum_range_add' (f : ℕ → EReal) (n T : ℕ) :
    ∑ k ∈ Finset.range (n + T), f k = ∑ k ∈ Finset.range n, f k + ∑ r : Fin T, f (n + r.val) := by
  rw [Finset.sum_range_add, ← Finset.sum_range (fun r => f (n + r))]

/-- One tile of `T` keys, as the kernel takes it. -/
theorem Good.step {s v : ℕ → EReal} {n : ℕ} {m l a : EReal} (hs : ∀ k, s k ≠ ⊤) (h : Good s v n m l a) (T : ℕ)
    (k0 : ℕ) (hk0 : k0 < n + T) (hr : s k0 ≠ ⊥) {m' l' a' : EReal}
    (em : m' = max m (Finset.univ.fold max ⊥ fun r : Fin T => s (n + r.val)))
    (el : l' = Ideal.exp2 (m - m') * l + ∑ r : Fin T, Ideal.exp2 (s (n + r.val) - m'))
    (ea : a' = Ideal.exp2 (m - m') * a + ∑ r : Fin T, v (n + r.val) * Ideal.exp2 (s (n + r.val) - m')) :
    Good s v (n + T) m' l' a' := by
  have em' : m' = (Finset.range (n + T)).sup s := by rw [em, fold_eq_sup, h.hm, sup_range_add]
  have hmt : m ≠ ⊤ := by rw [h.hm]; exact sup_ne_top hs n
  have hmt' : m' ≠ ⊤ := by rw [em']; exact sup_ne_top hs _
  have hmb' : m' ≠ ⊥ := by
    rw [em']; intro hb
    exact hr (le_bot_iff.1 (hb ▸ Finset.le_sup (f := s) (Finset.mem_range.2 hk0)))
  obtain ⟨R, hR⟩ : ∃ R : ℝ, m' = (R : EReal) := ⟨m'.toReal, (EReal.coe_toReal hmt' hmb').symm⟩
  have hle : ∀ k ∈ Finset.range n, s k ≤ m := fun k hk => by rw [h.hm]; exact Finset.le_sup hk
  have hsc : ∀ k ∈ Finset.range n, Ideal.exp2 (m - m') * Ideal.exp2 (s k - m) = Ideal.exp2 (s k - m') := fun k hk => by
    rw [hR]; exact rescale R (hle k hk) hmt
  have h0 : 0 ≤ Ideal.exp2 (m - m') := exp2_nonneg _
  have h1 : Ideal.exp2 (m - m') ≠ ⊤ := by rw [hR]; exact exp2_ne_top R hmt
  refine ⟨em', ?_, ?_⟩
  · rw [el, sum_range_add', h.hl, mul_sum_of_nonneg _ _ h0 h1, Finset.sum_congr rfl hsc]
  · rw [ea, sum_range_add', h.ha, mul_sum_of_nonneg _ _ h0 h1]
    refine congrArg (· + _) (Finset.sum_congr rfl fun k hk => ?_)
    rw [mul_left_comm, hsc k hk]

/-- Keys that are masked change nothing. -/
theorem Good.extend {s v : ℕ → EReal} {n : ℕ} {m l a : EReal} (h : Good s v n m l a) (T : ℕ)
    (hb : ∀ r : Fin T, s (n + r.val) = ⊥) : Good s v (n + T) m l a := by
  refine ⟨?_, ?_, ?_⟩
  · rw [sup_range_add, ← h.hm]
    refine (max_eq_left (Finset.sup_le fun r _ => ?_)).symm
    rw [hb r]; exact bot_le
  · rw [sum_range_add', ← h.hl, Finset.sum_eq_zero, add_zero]
    intro r _; rw [hb r, bot_sub', Ideal.exp2_bot]
  · rw [sum_range_add', ← h.ha, Finset.sum_eq_zero, add_zero]
    intro r _; rw [hb r, bot_sub', Ideal.exp2_bot, mul_zero]

/-! ### Against the softmax taken all at once -/

theorem exp2_log (r q : ℝ) : Real.rpow 2 (r * (Real.log 2)⁻¹ - q * (Real.log 2)⁻¹) = Real.exp (r - q) := by
  have h2 : Real.log 2 ≠ 0 := ne_of_gt (Real.log_pos (by norm_num))
  refine (Real.rpow_def_of_pos (by norm_num) _).trans (congrArg Real.exp ?_)
  field_simp

theorem coe_sum' {ι : Type} (S : Finset ι) (f : ι → ℝ) : ((∑ k ∈ S, f k : ℝ) : EReal) = ∑ k ∈ S, (f k : EReal) := by
  classical
  induction S using Finset.induction_on with
  | empty => simp
  | insert k S hk ih => rw [Finset.sum_insert hk, Finset.sum_insert hk, EReal.coe_add, ih]

/-- The kernel's quotient is the reference's sum of values weighted by a softmax: the kernel's scores are the
reference's logits `y` times `1 / log 2`, the kernel's powers are of two and the reference's of `e`. -/
theorem softmax_eq {N : ℕ} (M : Fin N → Prop) [DecidablePred M] (y : Fin N → ℝ) (w : Fin N → EReal) (k0 : Fin N) (hk0 : M k0)
    {s v : ℕ → EReal} (hs : ∀ k : Fin N, s k.val = if M k then ((y k * (Real.log 2)⁻¹ : ℝ) : EReal) else ⊥)
    (hv : ∀ k : Fin N, v k.val = w k) {x : Fin N → EReal} (hx : ∀ k, x k = if M k then ((y k : ℝ) : EReal) else ⊥)
    {m l a X L : EReal} (h : Good s v N m l a)
    (hX : X = Finset.univ.fold max ⊥ x) (hL : L = ∑ k : Fin N, Ideal.exp (x k - X)) :
    Ideal.div a l = ∑ k : Fin N, w k * Ideal.div (Ideal.exp (x k - X)) L := by
  have hc : 0 < (Real.log 2)⁻¹ := inv_pos.2 (Real.log_pos (by norm_num))
  -- the largest logit is one of the unmasked ones
  obtain ⟨k1, hk1, hmax⟩ := Finset.exists_max_image (Finset.univ.filter M) y ⟨k0, by simp [hk0]⟩
  have hM1 : M k1 := (Finset.mem_filter.1 hk1).2
  have eX : X = ((y k1 : ℝ) : EReal) := by
    rw [hX, fold_eq_sup]
    apply le_antisymm
    · refine Finset.sup_le fun k _ => ?_
      rw [hx k]
      split
      · next hk => exact EReal.coe_le_coe_iff.2 (hmax k (Finset.mem_filter.2 ⟨Finset.mem_univ k, hk⟩))
      · exact bot_le
    · have := Finset.le_sup (f := x) (Finset.mem_univ k1)
      rwa [hx k1, if_pos hM1] at this
  have em : m = ((y k1 * (Real.log 2)⁻¹ : ℝ) : EReal) := by
    rw [h.hm]
    apply le_antisymm
    · refine Finset.sup_le fun k hk => ?_
      rw [show k = (⟨k, Finset.mem_range.1 hk⟩ : Fin N).val from rfl, hs]
      split
      · next hk => exact EReal.coe_le_coe_iff.2 (mul_le_mul_of_nonneg_right
          (hmax _ (Finset.mem_filter.2 ⟨Finset.mem_univ _, hk⟩)) hc.le)
      · exact bot_le
    · have := Finset.le_sup (f := s) (Finset.mem_range.2 k1.isLt)
      rwa [hs k1, if_pos hM1] at this
  -- the weights, as real numbers
  let e : Fin N → ℝ := fun k => if M k then Real.exp (y k - y k1) else 0
  have eref : ∀ k, Ideal.exp (x k - X) = ((e k : ℝ) : EReal) := fun k => by
    rw [hx k, eX]
    by_cases hk : M k
    · rw [if_pos hk, ← EReal.coe_sub, Ideal.exp_coe]; simp [e, hk]
    · rw [if_neg hk, bot_sub', Ideal.exp_bot]; simp [e, hk]
  have eker : ∀ k : Fin N, Ideal.exp2 (s k.val - m) = ((e k : ℝ) : EReal) := fun k => by
    rw [hs k, em]
    by_cases hk : M k
    · rw [if_pos hk, ← EReal.coe_sub, Ideal.exp2_coe, exp2_log]; simp [e, hk]
    · rw [if_neg hk, bot_sub', Ideal.exp2_bot]; simp [e, hk]
  have he0 : ∀ k, 0 ≤ e k := fun k => by dsimp [e]; split; exacts [(Real.exp_pos _).le, le_refl _]
  have hpos : 0 < ∑ k, e k := Finset.sum_pos' (fun k _ => he0 k) ⟨k1, Finset.mem_univ _, by simp [e, hM1]⟩
  have eL : L = ((∑ k, e k : ℝ) : EReal) := by
    rw [hL, coe_sum']; exact Finset.sum_congr rfl fun k _ => eref k
  have el : l = ((∑ k, e k : ℝ) : EReal) := by
    rw [h.hl, Finset.sum_range, coe_sum']; exact Finset.sum_congr rfl fun k _ => eker k
  have ea : a = ∑ k : Fin N, w k * ((e k : ℝ) : EReal) := by
    rw [h.ha, Finset.sum_range]; exact Finset.sum_congr rfl fun k _ => by rw [eker k, hv k]
  have hne : ((∑ k, e k : ℝ) : EReal) ≠ 0 := by exact_mod_cast hpos.ne'
  rw [el, eL]
  unfold Ideal.div
  rw [if_neg hne, ea, mul_comm, ← EReal.coe_inv, mul_sum_of_nonneg _ _ (by exact_mod_cast (inv_pos.2 hpos).le) (EReal.coe_ne_top _)]
  refine Finset.sum_congr rfl fun k _ => ?_
  rw [if_neg hne, eref k, mul_left_comm, mul_comm ((e k : ℝ) : EReal)]

end Cert.Online
-- ==== Proof.Lane.lean ====
module

public import proofs.«01_k».proof.Proof.Read
public import proofs.«01_k».proof.Proof.Online

@[expose] public section

set_option maxRecDepth 16384

noncomputable section

namespace Cert.KernelIdeal.Run

open Idealize.ShloMosaic Cert.KernelIdeal.Gen Cert.Online

/-! One query of a block followed through the body: what the block holds for it at the end is the quotient of the running
output by the running sum over all keys of its batch. -/

variable (i : grid0.Coords)

/-- Which block of queries the point takes. -/
abbrev qb : ℕ := (i 2).val

theorem qb_lt : qb i < 4 := (i 2).isLt

theorem trips_eq : (k0_t1_loop i).trips = qb i := by
  have h : ∀ n : Fin 4, i 2 = n → (k0_t1_loop i).trips = n.val := by
    intro n hn
    simp only [k0_t1_loop, hn]
    revert n; intro n _
    fin_cases n <;> rfl
  exact h (i 2) rfl

theorem off1_zero (k : Fin (k0_t1_loop i).trips) (c : Fin 2) : k0_off1 i k (BitVec.ofNat 32 c.val) 0 = (2 * k.val + 1 + c.val) * 1024 := by
  have hk : k.val < 4 := lt_of_lt_of_le (k.isLt.trans_eq (trips_eq i)) (qb_lt i).le
  unfold k0_off1
  generalize k.val = n at hk
  fin_cases c <;> interval_cases n <;> rfl

theorem off2_zero (k : Fin (k0_t1_loop i).trips) (c : Fin 2) : k0_off2 i k (BitVec.ofNat 32 c.val) 0 = (2 * k.val + c.val) * 1024 := by
  have hk : k.val < 4 := lt_of_lt_of_le (k.isLt.trans_eq (trips_eq i)) (qb_lt i).le
  unfold k0_off2
  generalize k.val = n at hk
  fin_cases c <;> interval_cases n <;> rfl

theorem off5_zero : k0_off5 i 0 = (2 * qb i + 1) * 1024 := by
  have h : ∀ n : Fin 4, i 2 = n → k0_off5 i 0 = (2 * n.val + 1) * 1024 := by
    intro n hn
    simp only [k0_off5, hn]
    revert n; intro n _
    fin_cases n <;> rfl
  exact h (i 2) rfl

theorem off6_zero (c : Fin 2) : k0_off6 i (BitVec.ofNat 32 c.val) 0 = (2 * qb i + c.val) * 1024 := by
  have h : ∀ n : Fin 4, i 2 = n → k0_off6 i (BitVec.ofNat 32 c.val) 0 = (2 * n.val + c.val) * 1024 := by
    intro n hn
    simp only [k0_off6, hn]
    revert n; intro n _
    fin_cases n <;> fin_cases c <;> rfl
  exact h (i 2) rfl

variable (X3 : Vec Ideal S2048x256 .bf16) (X4 X5 X6 : Vec Ideal S8192x128 .bf16) (j : Fin 2048) (d : Fin 128)

/-- A key of the batch, its two parts side by side, at a column. -/
def keyAt (k : Fin 8192) (c : Fin 256) : EReal := if h : c.val < 128 then X4 (ix2 k ⟨c, h⟩) else X5 (ix2 k ⟨c - 128, by omega⟩)

/-- The score of a key against the query. -/
def raw (k : Fin 8192) : EReal := ∑ c : Fin 256, keyAt X4 X5 k c * X3 (ix2 j c)

/-- The score of a key, masked. -/
def sc (k : ℕ) : EReal := if h : k < 8192 then (if k / 64 ≤ (2048 * qb i + j.val) / 64 then raw X3 X4 X5 j ⟨k, h⟩ else ⊥) else ⊥

/-- The value of a key at a column. -/
def vl (k : ℕ) : EReal := if h : k < 8192 then X6 (ix2 ⟨k, h⟩ d) else 0

variable (hb : ∀ k, raw X3 X4 X5 j k ≠ ⊥) (ht : ∀ k, raw X3 X4 X5 j k ≠ ⊤)

include ht in
theorem sc_ne_top (k : ℕ) : sc i X3 X4 X5 j k ≠ ⊤ := by
  unfold sc
  split
  · split
    · exact ht _
    · exact bot_ne_top
  · exact bot_ne_top

include hb in
theorem sc_zero_ne_bot : sc i X3 X4 X5 j 0 ≠ ⊥ := by
  unfold sc
  rw [dif_pos (by omega), if_pos (by omega)]
  exact hb _

theorem sc_of_le {k : ℕ} (h : k < 8192) (hq : k / 64 ≤ (2048 * qb i + j.val) / 64) : sc i X3 X4 X5 j k = raw X3 X4 X5 j ⟨k, h⟩ := by
  unfold sc; rw [dif_pos h, if_pos hq]

theorem sc_of_lt {k : ℕ} (hq : ¬ k / 64 ≤ (2048 * qb i + j.val) / 64) : sc i X3 X4 X5 j k = ⊥ := by
  unfold sc
  by_cases h : k < 8192
  · rw [dif_pos h, if_neg hq]
  · rw [dif_neg h]

/-- A row of a tile of keys, its two parts side by side, is the key. -/
theorem tile_key {n : ℕ} {o4 : Fin 2 → Nat} (h4) (e : o4 0 = n) (e1 : o4 1 = 0) (r : Fin 1024) (hn : n + r.val < 8192) (c : Fin 256) :
    (if h : c.val < 128 then tile X4 o4 h4 (ix2 r ⟨c, h⟩) else tile X5 o4 h4 (ix2 r ⟨c - 128, by omega⟩)) = keyAt X4 X5 ⟨n + r.val, hn⟩ c := by
  subst e
  unfold keyAt
  split
  · rw [tile_apply X4 o4 h4 r _ e1 hn]
  · rw [tile_apply X5 o4 h4 r _ e1 hn]

/-- A tile of scores read at a key of the tile. -/
theorem tile_score {n : ℕ} {o4 : Fin 2 → Nat} (h4) (e : o4 0 = n) (e1 : o4 1 = 0) (r : Fin 1024) (hn : n + r.val < 8192) :
    score (tile X4 o4 h4) (tile X5 o4 h4) (qT X3) (ix2 r j) = raw X3 X4 X5 j ⟨n + r.val, hn⟩ := by
  rw [score_apply]
  refine Finset.sum_congr rfl fun c _ => ?_
  rw [qT_apply, tile_key X4 X5 h4 e e1 r hn c]

theorem tile_value {n : ℕ} {o6 : Fin 2 → Nat} (h6) (e : o6 0 = n) (e1 : o6 1 = 0) (r : Fin 1024) (hn : n + r.val < 8192) :
    tile X6 o6 h6 (ix2 r d) = vl X6 d (n + r.val) := by
  subst e
  rw [tile_apply X6 o6 h6 r _ e1 hn]
  unfold vl
  rw [dif_pos hn]

include hb ht in
/-- One update of the running quantities with a tile of scores that is the query's masked scores from key `n` on. -/
theorem update_good {n : ℕ} {S : Vec Ideal S1024x2048 .f32} {V : Vec Ideal S1024x128 .bf16} {M L : Vec Ideal S1x2048 .f32}
    {A : Vec Ideal S128x2048 .f32} (g : Good (sc i X3 X4 X5 j) (vl X6 d) n (M (ix2 0 j)) (L (ix2 0 j)) (A (ix2 d j)))
    (hS : ∀ r : Fin 1024, S (ix2 r j) = sc i X3 X4 X5 j (n + r.val)) (hV : ∀ r : Fin 1024, V (ix2 r d) = vl X6 d (n + r.val)) :
    Good (sc i X3 X4 X5 j) (vl X6 d) (n + 1024) (stepM S M (ix2 0 j)) (stepL S M L (ix2 0 j)) (stepA V S M A (ix2 d j)) := by
  refine g.step (sc_ne_top i X3 X4 X5 j ht) 1024 0 (by omega) (sc_zero_ne_bot i X3 X4 X5 j hb) ?_ ?_ ?_
  · rw [stepM_apply]; simp only [hS]
  · rw [stepL_apply]; simp only [hS]
  · rw [stepA_apply]; simp only [hS, hV]

/-- The state carries the query's running quantities over the first `2n` tiles and the scores of tile `2n`. -/
structure GoodSt (n : ℕ) (s : St Ideal) : Prop where
  hS : ∀ r : Fin 1024, ∀ h : 2048 * n + r.val < 8192, s.S (ix2 r j) = raw X3 X4 X5 j ⟨2048 * n + r.val, h⟩
  hG : Good (sc i X3 X4 X5 j) (vl X6 d) (2048 * n) (s.M (ix2 0 j)) (s.L (ix2 0 j)) (s.A (ix2 d j))

theorem initSt_good : GoodSt i X3 X4 X5 X6 j d 0 (initSt X3 X4 X5) := by
  refine ⟨fun r h => ?_, ?_⟩
  · exact tile_score X3 X4 X5 j (o4 := ![0, 0]) inb_S8192x128_S1024x128_0_0 rfl rfl r h
  · show Good _ _ 0 (k0_pay37 (F := Ideal) (ix2 0 j)) (k0_pay38 (F := Ideal) (ix2 0 j)) (k0_pay39 (F := Ideal) (ix2 d j))
    rw [pay37_apply, pay38_apply, pay39_apply]
    exact Good.zero _ _

include hb ht in
theorem tripSt_good (k : Fin (k0_t1_loop i).trips) (s : St Ideal) (g : GoodSt i X3 X4 X5 X6 j d k.val s) :
    GoodSt i X3 X4 X5 X6 j d (k.val + 1) (tripSt i X4 X5 X6 (qT X3) k s) := by
  have hk : k.val < qb i := k.isLt.trans_eq (trips_eq i)
  have hq := qb_lt i
  have e10 := off1_zero i k 0
  have e11 := off1_zero i k 1
  have e20 := off2_zero i k 0
  have e21 := off2_zero i k 1
  have g1 := update_good i X3 X4 X5 X6 j d hb ht g.hG
    (S := s.S) (V := tile X6 (k0_off2 i k 0#32) (k0_off2_inb i k 0))
    (fun r => by rw [g.hS r (by omega), sc_of_le i X3 X4 X5 j (by omega) (by omega)])
    (fun r => tile_value X6 d _ (e20.trans (by omega)) rfl r (by omega))
  have g2 := update_good i X3 X4 X5 X6 j d hb ht g1
    (S := score (tile X4 (k0_off1 i k 0#32) (k0_off1_inb i k 0)) (tile X5 (k0_off1 i k 0#32) (k0_off1_inb i k 0)) (qT X3))
    (V := tile X6 (k0_off2 i k 1#32) (k0_off2_inb i k 1))
    (fun r => (tile_score X3 X4 X5 j (n := 2048 * k.val + 1024) (k0_off1_inb i k 0)
      (e10.trans (by show (2 * k.val + 1 + 0) * 1024 = _; omega)) rfl r (by omega)).trans (sc_of_le i X3 X4 X5 j (by omega) (by omega)).symm)
    (fun r => tile_value X6 d _ (e21.trans (by show (2 * k.val + 1) * 1024 = _; omega)) rfl r (by omega))
  refine ⟨fun r h => ?_, ?_⟩
  · exact tile_score X3 X4 X5 j (n := 2048 * (k.val + 1)) (k0_off1_inb i k 1) (e11.trans (by show (2 * k.val + 1 + 1) * 1024 = _; omega)) rfl r h
  · have e : 2048 * (k.val + 1) = 2048 * k.val + 1024 + 1024 := by omega
    rw [e]
    exact g2

include hb ht in
theorem stAt_good (n : ℕ) (hn : n ≤ (k0_t1_loop i).trips) :
    GoodSt i X3 X4 X5 X6 j d n (stAt i X4 X5 X6 (qT X3) (initSt X3 X4 X5) n) := by
  induction n with
  | zero => exact initSt_good i X3 X4 X5 X6 j d
  | succ n ih =>
    have h : n < (k0_t1_loop i).trips := hn
    have := tripSt_good i X3 X4 X5 X6 j d hb ht ⟨n, h⟩ _ (ih h.le)
    show GoodSt i X3 X4 X5 X6 j d (n + 1) (if h : n < (k0_t1_loop i).trips then _ else _)
    rw [dif_pos h]
    exact this

include hb ht in
theorem endSt_good : GoodSt i X3 X4 X5 X6 j d (qb i) (endSt i X3 X4 X5 X6) := by
  rw [← trips_eq i]
  exact stAt_good i X3 X4 X5 X6 j d hb ht _ (le_refl _)

/-! The two diagonal tiles. -/

include hb ht in
theorem diag0_good :
    Good (sc i X3 X4 X5 j) (vl X6 d) (2048 * qb i + 1024)
      (dM (endSt i X3 X4 X5 X6).S (endSt i X3 X4 X5 X6).M (ix2 0 j))
      (dL (endSt i X3 X4 X5 X6).S (endSt i X3 X4 X5 X6).M (endSt i X3 X4 X5 X6).L (ix2 0 j))
      (dA (tile X6 (k0_off6 i 0#32) (k0_off6_inb i 0)) (endSt i X3 X4 X5 X6).S (endSt i X3 X4 X5 X6).M (endSt i X3 X4 X5 X6).A (ix2 d j)) := by
  have hq := qb_lt i
  have g := endSt_good i X3 X4 X5 X6 j d hb ht
  rw [dM_eq, dL_eq, dA_eq]
  refine update_good i X3 X4 X5 X6 j d hb ht g.hG (fun r => ?_)
    (fun r => tile_value X6 d _ ((off6_zero i 0).trans (by show (2 * qb i + 0) * 1024 = _; omega)) rfl r (by omega))
  rw [mask0_apply]
  by_cases h : r.val / 64 ≤ j.val / 64
  · rw [if_pos h, g.hS r (by omega), sc_of_le i X3 X4 X5 j (by omega) (by omega)]
  · rw [if_neg h, sc_of_lt i X3 X4 X5 j (by omega)]

/-- A key of the second diagonal tile against a query of the second half. -/
theorem score1_raw (jj : Fin 1024) (r : Fin 1024) (h : 2048 * qb i + 1024 + r.val < 8192) :
    k0_pay42 (score1 i X4 X5 (qT X3)) (ix2 r jj) = raw X3 X4 X5 ⟨1024 + jj.val, by omega⟩ ⟨2048 * qb i + 1024 + r.val, h⟩ := by
  rw [score1_apply]
  refine Finset.sum_congr rfl fun c _ => ?_
  rw [qT_apply, tile_key X4 X5 (k0_off5_inb i) (n := 2048 * qb i + 1024) ((off5_zero i).trans (by omega)) rfl r h c]

theorem hi1_emb (jj : Fin 1024) : rHi1.emb (ix2 (0 : Fin 1) jj) = ix2 (0 : Fin 1) (⟨1024 + jj.val, by omega⟩ : Fin 2048) := by
  funext a; apply Fin.ext
  rw [Rect.emb_apply]
  match a with
  | ⟨0, _⟩ => rfl
  | ⟨1, _⟩ => show 1024 + 1 * jj.val = 1024 + jj.val; omega
theorem hi128_emb (jj : Fin 1024) : rHi128.emb (ix2 d jj) = ix2 d (⟨1024 + jj.val, by omega⟩ : Fin 2048) := by
  funext a; apply Fin.ext
  rw [Rect.emb_apply]
  match a with
  | ⟨0, _⟩ => show 0 + 1 * d.val = d.val; omega
  | ⟨1, _⟩ => show 1024 + 1 * jj.val = 1024 + jj.val; omega
theorem ld_hi1 (X : Vec Ideal S1x2048 .f32) (jj : Fin 1024) : View.ld X rHi1 (ix2 (0 : Fin 1) jj) = X (ix2 0 ⟨1024 + jj.val, by omega⟩) := by
  rw [← hi1_emb]; rfl
theorem ld_hi128 (X : Vec Ideal S128x2048 .f32) (jj : Fin 1024) : View.ld X rHi128 (ix2 d jj) = X (ix2 d ⟨1024 + jj.val, by omega⟩) := by
  rw [← hi128_emb]; rfl

theorem not_hi1 (hj : j.val < 1024) : ix2 (0 : Fin 1) j ∉ rHi1.set := by
  rw [Rect.mem_set_unit]
  intro h
  have : 1024 ≤ j.val := (h 1).1
  omega
theorem not_hi128 (hj : j.val < 1024) : ix2 d j ∉ rHi128.set := by
  rw [Rect.mem_set_unit]
  intro h
  have : 1024 ≤ j.val := (h 1).1
  omega

/-- A buffer written whole and then in part, off the part. -/
theorem canon_off {Val : EltTy → Type} [∀ e, Nonempty (Val e)] {S : Shape} {e : EltTy} (r : Rect S) (w : r.shape.Idx → Val e)
    {off : Fin S.rank → Nat} (h : off = fun _ => 0) (inb : ∀ a, off a + S.size a ≤ S.size a) (w0 : S.Idx → Val e) {y : S.Idx}
    (hy : y ∉ r.set) : View.canon [⟨r, w⟩, ⟨Rect.unit off S.size inb, w0⟩] y = w0 y := by
  rw [View.canon_cons_of_not_mem _ _ hy, View.canon_cons_unit_zero h]

section Fin
variable (V0 V1 : Vec Ideal S1024x128 .bf16) (S1 : Vec Ideal S1024x1024 .f32) (s : St Ideal) (jj : Fin 1024)

/-! What the two last buffers hold, in the two halves of the queries. -/

theorem finL_lo (hj : j.val < 1024) : finL S1 s (ix2 0 j) = dL s.S s.M s.L (ix2 0 j) := by
  unfold finL
  generalize dL s.S s.M s.L = w0
  generalize eL S1 _ _ = w
  exact canon_off rHi1 w zero2 inb_S1x2048_S1x2048_0_0 w0 (not_hi1 j hj)
theorem finA_lo (hj : j.val < 1024) : finA V0 V1 S1 s (ix2 d j) = dA V0 s.S s.M s.A (ix2 d j) := by
  unfold finA
  generalize dA V0 s.S s.M s.A = w0
  generalize eA V1 S1 _ _ = w
  exact canon_off rHi128 w zero2 inb_S128x2048_S128x2048_0_0 w0 (not_hi128 j d hj)
theorem finL_hi : finL S1 s (ix2 0 ⟨1024 + jj.val, by omega⟩)
    = eL S1 (View.ld (dM s.S s.M) rHi1) (View.ld (dL s.S s.M s.L) rHi1) (ix2 0 jj) := by
  rw [← hi1_emb]; exact View.canon_cons_emb rHi1 _ _ _
theorem finA_hi : finA V0 V1 S1 s (ix2 d ⟨1024 + jj.val, by omega⟩)
    = eA V1 S1 (View.ld (dM s.S s.M) rHi1) (View.ld (dA V0 s.S s.M s.A) rHi128) (ix2 d jj) := by
  rw [← hi128_emb]; exact View.canon_cons_emb rHi128 _ _ _

end Fin

include hb ht in
/-- The second half's queries through the second diagonal tile. -/
theorem diag1_good (jj : Fin 1024) (hj : j.val = 1024 + jj.val) {V1 : Vec Ideal S1024x128 .bf16} {S1 : Vec Ideal S1024x1024 .f32}
    {m l a : EReal} (g : Good (sc i X3 X4 X5 j) (vl X6 d) (2048 * qb i + 1024) m l a)
    (hS : ∀ r : Fin 1024, ∀ h, S1 (ix2 r jj) = raw X3 X4 X5 j ⟨2048 * qb i + 1024 + r.val, h⟩)
    (hV : ∀ r : Fin 1024, V1 (ix2 r d) = vl X6 d (2048 * qb i + 1024 + r.val))
    {M L : Vec Ideal S1x1024 .f32} {A : Vec Ideal S128x1024 .f32} (eM' : M (ix2 0 jj) = m) (eL' : L (ix2 0 jj) = l) (eA' : A (ix2 d jj) = a) :
    Good (sc i X3 X4 X5 j) (vl X6 d) (2048 * qb i + 1024 + 1024) (eM S1 M (ix2 0 jj)) (eL S1 M L (ix2 0 jj)) (eA V1 S1 M A (ix2 d jj)) := by
  have hq := qb_lt i
  have hm : ∀ r : Fin 1024, mask1 S1 (ix2 r jj) = sc i X3 X4 X5 j (2048 * qb i + 1024 + r.val) := fun r => by
    rw [mask1_apply]
    by_cases h : r.val / 64 ≤ jj.val / 64
    · rw [if_pos h, hS r (by omega), sc_of_le i X3 X4 X5 j (by omega) (by omega)]
    · rw [if_neg h, sc_of_lt i X3 X4 X5 j (by omega)]
  refine g.step (sc_ne_top i X3 X4 X5 j ht) 1024 0 (by omega) (sc_zero_ne_bot i X3 X4 X5 j hb) ?_ ?_ ?_
  · rw [eM_apply, eM']; simp only [hm]
  · rw [eL_apply, eM', eL']; simp only [hm]
  · rw [eA_apply, eM', eA']; simp only [hm, hV]

include hb ht in
/-- The block the body leaves, at a query and a column. -/
theorem outV_good : ∃ m l a, Good (sc i X3 X4 X5 j) (vl X6 d) 8192 m l a ∧ outV i X3 X4 X5 X6 (ix2 j d) = Ideal.div a l := by
  have hq := qb_lt i
  have g0 := diag0_good i X3 X4 X5 X6 j d hb ht
  have e8 : 2048 * qb i + 1024 + 1024 + (8192 - (2048 * qb i + 1024 + 1024)) = 8192 := by omega
  have eo : outV i X3 X4 X5 X6 (ix2 j d) = Ideal.div _ _ := pay3_apply _ _ j d
  rcases Nat.lt_or_ge j.val 1024 with hj | hj
  · rw [finL_lo j _ _ hj, finA_lo j d _ _ _ _ hj] at eo
    have g1 := (g0.extend 1024 fun r => sc_of_lt i X3 X4 X5 j (by omega)).extend (8192 - (2048 * qb i + 1024 + 1024))
      fun r => sc_of_lt i X3 X4 X5 j (by omega)
    rw [e8] at g1
    exact ⟨_, _, _, g1, eo⟩
  · obtain ⟨jj, hjj⟩ : ∃ jj : Fin 1024, j = ⟨1024 + jj.val, by omega⟩ :=
      ⟨⟨j.val - 1024, by omega⟩, Fin.ext (by show j.val = 1024 + (j.val - 1024); omega)⟩
    have g1 := diag1_good i X3 X4 X5 X6 j d hb ht jj (congrArg Fin.val hjj) g0
      (V1 := tile X6 (k0_off6 i 1#32) (k0_off6_inb i 1)) (S1 := k0_pay42 (score1 i X4 X5 (qT X3)))
      (fun r h => by rw [hjj]; exact score1_raw i X3 X4 X5 jj r h)
      (fun r => tile_value X6 d _ ((off6_zero i 1).trans (by show (2 * qb i + 1) * 1024 = _; omega)) rfl r (by omega))
      (M := View.ld (dM (endSt i X3 X4 X5 X6).S (endSt i X3 X4 X5 X6).M) rHi1)
      (L := View.ld (dL (endSt i X3 X4 X5 X6).S (endSt i X3 X4 X5 X6).M (endSt i X3 X4 X5 X6).L) rHi1)
      (A := View.ld (dA (tile X6 (k0_off6 i 0#32) (k0_off6_inb i 0)) (endSt i X3 X4 X5 X6).S (endSt i X3 X4 X5 X6).M (endSt i X3 X4 X5 X6).A) rHi128)
      (by rw [ld_hi1, hjj]) (by rw [ld_hi1, hjj]) (by rw [ld_hi128, hjj])
    have g2 := g1.extend (8192 - (2048 * qb i + 1024 + 1024)) fun r => sc_of_lt i X3 X4 X5 j (by omega)
    rw [e8] at g2
    refine ⟨_, _, _, g2, ?_⟩
    rw [eo, hjj, finL_hi, finA_hi]

end Cert.KernelIdeal.Run
-- ==== Proof.Host.lean ====
module

public import proofs.«01_k».proof.Proof.Whole
public import Idealize.ShloMosaic.Lib.StableHlo.ReadAt
public import Idealize.ShloMosaic.Lib.Pointwise

/-! The arrays the host hands to the attention call, and the blocks a grid point sees of them, at an index. -/

@[expose] public section

noncomputable section

namespace Cert.KernelIdeal.Run

open Idealize.ShloMosaic Idealize.ShloMosaic.TcCoe Cert.KernelIdeal Cert.KernelIdeal.Gen

/-- The factor the host puts on every query: one over the product of the logarithm of two and the root of 192. -/
def hostScale : EReal := Ideal.div 1 (Ideal.log (Ideal.ofBits FTy.f32 1073741824#32) * Ideal.sqrt (Ideal.ofBits FTy.f32 1128267776#32))

variable (m : (ℓ : Loc nD τ sig) → Buf (Elt Ideal) ℓ) (c : Dev nD)

section Host
variable (b : Fin 2) (s : Fin 8192) (r : Fin 16384) (hr : r.val = 8192 * b.val + s.val)
include hr

theorem kv_apply (e : Fin 8192) : V m c main_v15 (ix2 r e) = m ((c : Thread nD τ).loc main_arg2) (ix3 b s e) := by
  have h1 : r.val / 8192 = b.val := by omega
  have h2 : r.val % 8192 = s.val := by omega
  unfold V
  after_reads_at
  simp only [h1, h2]

theorem kr_lo (e : Fin 128) (he : e.val < 64) : V m c main_v13 (ix2 r e) = m ((c : Thread nD τ).loc main_arg3) (ix3 b s ⟨e.val, he⟩) := by
  have h1 : r.val / 8192 = b.val := by omega
  have h2 : r.val % 8192 = s.val := by omega
  unfold V
  after_reads_at
  rw [dif_pos he]
  after_reads_at
  simp only [h1, h2]

theorem kr_hi (e : Fin 128) (he : ¬ e.val < 64) : V m c main_v13 (ix2 r e) = (0 : EReal) := by
  unfold V
  after_reads_at
  rw [dif_neg he]
  after_reads_at

variable (h : Fin 32) (d : Fin 256) (e : Fin 8192) (he : e.val = 256 * h.val + d.val)
include he

theorem q_nope (hd : d.val < 128) :
    V m c main_v9 (ix2 r e) = HMul.hMul (α := EReal) (β := EReal) (m ((c : Thread nD τ).loc main_arg0) (ix4 b s h ⟨d.val, hd⟩)) hostScale := by
  have h1 : r.val / 8192 = b.val := by omega
  have h2 : r.val % 8192 = s.val := by omega
  have h3 : e.val / 256 = h.val := by omega
  have h4 : e.val % 256 = d.val := by omega
  unfold V
  after_reads_at
  rw [dif_pos (by omega)]
  after_reads_at
  simp only [h1, h2, h3, h4]
  rfl

theorem q_rope (hd : ¬ d.val < 128) (hd' : d.val - 128 < 64) :
    V m c main_v9 (ix2 r e) = HMul.hMul (α := EReal) (β := EReal) (m ((c : Thread nD τ).loc main_arg1) (ix4 b s h ⟨d.val - 128, hd'⟩)) hostScale := by
  have h1 : r.val / 8192 = b.val := by omega
  have h2 : r.val % 8192 = s.val := by omega
  have h3 : e.val / 256 = h.val := by omega
  have h4 : e.val % 256 = d.val := by omega
  unfold V
  after_reads_at
  rw [dif_neg (by omega), dif_pos (by omega)]
  after_reads_at
  simp only [h1, h2, h3, h4]
  rfl

theorem q_zero (hd : ¬ d.val < 128) (hd' : ¬ d.val - 128 < 64) : V m c main_v9 (ix2 r e) = (0 : EReal) := by
  have h4 : e.val % 256 = d.val := by omega
  unfold V
  after_reads_at
  rw [dif_neg (by omega), dif_neg (by omega)]
  after_reads_at
  exact zero_mul _

end Host

/-! The blocks. -/

theorem at0 (i : grid0.Coords) : cc0_transform_0 i 0 = 4 * (i 0).val + (i 2).val ∧ cc0_transform_0 i 1 = (i 1).val := by
  have h0 : (i 0).val < 2 := (i 0).isLt
  have h1 : (i 1).val < 32 := (i 1).isLt
  have h2 : (i 2).val < 4 := (i 2).isLt
  unfold cc0_transform_0
  constructor <;> simp [Scalar.muli, Scalar.addi, IntOp.muli, IntOp.addi, BitVec.toNat_mul, BitVec.toNat_add, BitVec.toNat_ofNat] <;> omega
theorem at1 (i : grid0.Coords) : cc0_transform_1 i 0 = (i 0).val ∧ cc0_transform_1 i 1 = 2 * (i 1).val := by
  have h0 : (i 0).val < 2 := (i 0).isLt
  have h1 : (i 1).val < 32 := (i 1).isLt
  unfold cc0_transform_1
  constructor <;> simp [Scalar.muli, Scalar.addi, IntOp.muli, IntOp.addi, BitVec.toNat_mul, BitVec.toNat_add, BitVec.toNat_ofNat] <;> omega
theorem at2 (i : grid0.Coords) : cc0_transform_2 i 0 = (i 0).val ∧ cc0_transform_2 i 1 = 0 := by
  have h0 : (i 0).val < 2 := (i 0).isLt
  unfold cc0_transform_2
  constructor <;> simp [BitVec.toNat_ofNat] <;> omega
theorem at3 (i : grid0.Coords) : cc0_transform_3 i 0 = (i 0).val ∧ cc0_transform_3 i 1 = 2 * (i 1).val + 1 := by
  have h0 : (i 0).val < 2 := (i 0).isLt
  have h1 : (i 1).val < 32 := (i 1).isLt
  unfold cc0_transform_3
  constructor <;> simp [Scalar.muli, Scalar.addi, IntOp.muli, IntOp.addi, BitVec.toNat_mul, BitVec.toNat_add, BitVec.toNat_ofNat] <;> omega
theorem at4 (i : grid0.Coords) : cc0_transform_4 i 0 = 4 * (i 0).val + (i 2).val ∧ cc0_transform_4 i 1 = (i 1).val := by
  have h0 : (i 0).val < 2 := (i 0).isLt
  have h1 : (i 1).val < 32 := (i 1).isLt
  have h2 : (i 2).val < 4 := (i 2).isLt
  unfold cc0_transform_4
  constructor <;> simp [Scalar.muli, Scalar.addi, IntOp.muli, IntOp.addi, BitVec.toNat_mul, BitVec.toNat_add, BitVec.toNat_ofNat] <;> omega

section Blocks
variable (t : Fin cfg0.N) (r : Fin 16384)

theorem emb0 (j : Fin 2048) (d : Fin 256) (e : Fin 8192)
    (hr : r.val = (4 * (grid0.coords t 0).val + (grid0.coords t 2).val) * 2048 + j.val) (he : e.val = (grid0.coords t 1).val * 256 + d.val) :
    ((cfg0.win 0).blk t).view.emb (ix2 j d) = (ix2 r e : S16384x8192.Idx) := by
  obtain ⟨e0, e1⟩ := at0 (grid0.coords t)
  funext a; apply Fin.ext
  match a with
  | ⟨0, _⟩ => show cc0_transform_0 (grid0.coords t) 0 * 2048 + 1 * j.val = r.val; omega
  | ⟨1, _⟩ => show cc0_transform_0 (grid0.coords t) 1 * 256 + 1 * d.val = e.val; omega
theorem emb1 (k : Fin 8192) (d : Fin 128) (e : Fin 8192)
    (hr : r.val = (grid0.coords t 0).val * 8192 + k.val) (he : e.val = 2 * (grid0.coords t 1).val * 128 + d.val) :
    ((cfg0.win 1).blk t).view.emb (ix2 k d) = (ix2 r e : S16384x8192.Idx) := by
  obtain ⟨e0, e1⟩ := at1 (grid0.coords t)
  funext a; apply Fin.ext
  match a with
  | ⟨0, _⟩ => show cc0_transform_1 (grid0.coords t) 0 * 8192 + 1 * k.val = r.val; omega
  | ⟨1, _⟩ => show cc0_transform_1 (grid0.coords t) 1 * 128 + 1 * d.val = e.val; omega
theorem emb2 (k : Fin 8192) (d : Fin 128) (hr : r.val = (grid0.coords t 0).val * 8192 + k.val) :
    ((cfg0.win 2).blk t).view.emb (ix2 k d) = (ix2 r d : S16384x128.Idx) := by
  obtain ⟨e0, e1⟩ := at2 (grid0.coords t)
  funext a; apply Fin.ext
  match a with
  | ⟨0, _⟩ => show cc0_transform_2 (grid0.coords t) 0 * 8192 + 1 * k.val = r.val; omega
  | ⟨1, _⟩ => show cc0_transform_2 (grid0.coords t) 1 * 128 + 1 * d.val = d.val; omega
theorem emb3 (k : Fin 8192) (d : Fin 128) (e : Fin 8192)
    (hr : r.val = (grid0.coords t 0).val * 8192 + k.val) (he : e.val = (2 * (grid0.coords t 1).val + 1) * 128 + d.val) :
    ((cfg0.win 3).blk t).view.emb (ix2 k d) = (ix2 r e : S16384x8192.Idx) := by
  obtain ⟨e0, e1⟩ := at3 (grid0.coords t)
  funext a; apply Fin.ext
  match a with
  | ⟨0, _⟩ => show cc0_transform_3 (grid0.coords t) 0 * 8192 + 1 * k.val = r.val; omega
  | ⟨1, _⟩ => show cc0_transform_3 (grid0.coords t) 1 * 128 + 1 * d.val = e.val; omega
theorem emb4 (j : Fin 2048) (d : Fin 128) (e : Fin 4096)
    (hr : r.val = (4 * (grid0.coords t 0).val + (grid0.coords t 2).val) * 2048 + j.val) (he : e.val = (grid0.coords t 1).val * 128 + d.val) :
    ((cfg0.win 4).blk t).view.emb (ix2 j d) = (ix2 r e : S16384x4096.Idx) := by
  obtain ⟨e0, e1⟩ := at4 (grid0.coords t)
  funext a; apply Fin.ext
  match a with
  | ⟨0, _⟩ => show cc0_transform_4 (grid0.coords t) 0 * 2048 + 1 * j.val = r.val; omega
  | ⟨1, _⟩ => show cc0_transform_4 (grid0.coords t) 1 * 128 + 1 * d.val = e.val; omega

theorem blk0 (j : Fin 2048) (d : Fin 256) (e : Fin 8192)
    (hr : r.val = (4 * (grid0.coords t 0).val + (grid0.coords t 2).val) * 2048 + j.val) (he : e.val = (grid0.coords t 1).val * 256 + d.val) :
    iblk m c 0 t (ix2 j d) = V m c main_v9 (ix2 r e) := by
  show V m c main_v9 (((cfg0.win 0).blk t).view.emb (ix2 j d)) = _
  rw [emb0 t r j d e hr he]
theorem blk1 (k : Fin 8192) (d : Fin 128) (e : Fin 8192)
    (hr : r.val = (grid0.coords t 0).val * 8192 + k.val) (he : e.val = 2 * (grid0.coords t 1).val * 128 + d.val) :
    iblk m c 1 t (ix2 k d) = V m c main_v15 (ix2 r e) := by
  show V m c main_v15 (((cfg0.win 1).blk t).view.emb (ix2 k d)) = _
  rw [emb1 t r k d e hr he]
theorem blk2 (k : Fin 8192) (d : Fin 128) (hr : r.val = (grid0.coords t 0).val * 8192 + k.val) :
    iblk m c 2 t (ix2 k d) = V m c main_v13 (ix2 r d) := by
  show V m c main_v13 (((cfg0.win 2).blk t).view.emb (ix2 k d)) = _
  rw [emb2 t r k d hr]
theorem blk3 (k : Fin 8192) (d : Fin 128) (e : Fin 8192)
    (hr : r.val = (grid0.coords t 0).val * 8192 + k.val) (he : e.val = (2 * (grid0.coords t 1).val + 1) * 128 + d.val) :
    iblk m c 3 t (ix2 k d) = V m c main_v15 (ix2 r e) := by
  show V m c main_v15 (((cfg0.win 3).blk t).view.emb (ix2 k d)) = _
  rw [emb3 t r k d e hr he]

end Blocks
end Cert.KernelIdeal.Run
end
-- ==== Proof.Score.lean ====
module

public import Idealize.ShloMosaic.Lib.Pointwise
public import Idealize.ShloMosaic.PureOps.Ideal.Laws

/-! The score of one query and one key, as a real number. -/

@[expose] public section

noncomputable section

namespace Cert.Score

open Idealize.ShloMosaic

/-- The scores' scale: one over the root of 192. -/
def scale : ℝ := (Real.sqrt 192)⁻¹

theorem two : Ideal.ofBits FTy.f32 1073741824#32 = ((2 : ℝ) : EReal) := by
  simp [Ideal.ofBits, Ideal.ieee]
  rw [← EReal.coe_mul]; norm_num

theorem width : Ideal.ofBits FTy.f32 1128267776#32 = ((192 : ℝ) : EReal) := by
  simp [Ideal.ofBits, Ideal.ieee]
  rw [← EReal.coe_mul]; norm_num

theorem div_one {r : ℝ} (h : r ≠ 0) : Ideal.div 1 (r : EReal) = ((r⁻¹ : ℝ) : EReal) := by
  unfold Ideal.div
  rw [if_neg (by exact_mod_cast h), one_mul, EReal.coe_inv]

theorem sqrt_width : Ideal.sqrt ((192 : ℝ) : EReal) = ((Real.sqrt 192 : ℝ) : EReal) := by
  show (if (192 : ℝ) < 0 then (⊥ : EReal) else ((Real.sqrt 192 : ℝ) : EReal)) = _
  rw [if_neg (by norm_num)]

theorem log_two : Ideal.log ((2 : ℝ) : EReal) = ((Real.log 2 : ℝ) : EReal) := by
  show (if (2 : ℝ) ≤ 0 then (⊥ : EReal) else ((Real.log 2 : ℝ) : EReal)) = _
  rw [if_neg (by norm_num)]

theorem scale_eq : Ideal.div 1 (Ideal.sqrt (Ideal.ofBits FTy.f32 1128267776#32)) = ((scale : ℝ) : EReal) := by
  rw [width, sqrt_width, div_one (by positivity)]; rfl

theorem hostScale_eq : Ideal.div 1 (Ideal.log (Ideal.ofBits FTy.f32 1073741824#32) * Ideal.sqrt (Ideal.ofBits FTy.f32 1128267776#32))
    = ((scale * (Real.log 2)⁻¹ : ℝ) : EReal) := by
  have h2 : (0 : ℝ) < Real.log 2 := Real.log_pos (by norm_num)
  rw [width, sqrt_width, two, log_two, ← EReal.coe_mul, div_one (by positivity)]
  unfold scale
  rw [mul_inv, mul_comm]

theorem sum_coe {n : ℕ} (f : Fin n → ℝ) : ∑ c, ((f c : ℝ) : EReal) = ((∑ c, f c : ℝ) : EReal) :=
  (map_sum (⟨⟨fun r : ℝ => (r : EReal), rfl⟩, EReal.coe_add⟩ : ℝ →+ EReal) f Finset.univ).symm

/-- A sum over 256 columns, of which the last 64 vanish. -/
theorem split (F : Fin 256 → EReal) (hz : ∀ c : Fin 256, 192 ≤ c.val → F c = 0) :
    ∑ c, F c = (∑ c : Fin 128, F ⟨c.val, by omega⟩) + ∑ c : Fin 64, F ⟨128 + c.val, by omega⟩ := by
  have e := Fin.sum_univ_add (a := 192) (b := 64) F
  have e' := Fin.sum_univ_add (a := 128) (b := 64) fun c : Fin 192 => F (Fin.castAdd 64 c)
  have z : ∑ c : Fin 64, F (Fin.natAdd 192 c) = 0 := Finset.sum_eq_zero fun c _ => hz _ (by simp)
  rw [z, add_zero] at e
  exact e.trans e'

/-- The product of a query and a key, each a real number in its two parts. -/
def dot (qn kn : Fin 128 → ℝ) (qr kr : Fin 64 → ℝ) : ℝ := (∑ c, qn c * kn c) + ∑ c, qr c * kr c

theorem dot_eq (f g : Fin 256 → EReal) (qn kn : Fin 128 → ℝ) (qr kr : Fin 64 → ℝ) (σ : ℝ)
    (hf : ∀ c : Fin 128, f ⟨c.val, by omega⟩ = (kn c : EReal)) (hg : ∀ c : Fin 128, g ⟨c.val, by omega⟩ = (qn c : EReal) * (σ : EReal))
    (hf' : ∀ c : Fin 64, f ⟨128 + c.val, by omega⟩ = (kr c : EReal)) (hg' : ∀ c : Fin 64, g ⟨128 + c.val, by omega⟩ = (qr c : EReal) * (σ : EReal))
    (hz : ∀ c : Fin 256, 192 ≤ c.val → f c = 0) : ∑ c, f c * g c = ((dot qn kn qr kr * σ : ℝ) : EReal) := by
  rw [split _ fun c hc => by rw [hz c hc, zero_mul]]
  simp only [hf, hg, hf', hg', ← EReal.coe_mul]
  rw [sum_coe, sum_coe, ← EReal.coe_add]
  congr 1
  unfold dot
  rw [add_mul, Finset.sum_mul, Finset.sum_mul]
  congr 1 <;> exact Finset.sum_congr rfl fun c _ => by ring

end Cert.Score
end
-- ==== Proof.Ref.lean ====
module

public import proofs.«01_k».proof.Proof.Gen.ReferenceIdeal.Read
public import proofs.«01_k».proof.Proof.Chunk
public import proofs.«01_k».proof.Proof.Score
public import Idealize.ShloMosaic.Lib.Pointwise
public import Idealize.ShloMosaic.Lib.KernelVsHost

/-! The reference at an index: a softmax over the keys of the query's batch whose chunk is not after its own. -/

@[expose] public section

noncomputable section

namespace Cert.ReferenceIdeal.Run

open Cert.ReferenceIdeal Cert.ReferenceIdeal.Gen Cert.ReferenceIdeal.Read Idealize.ShloMosaic Idealize.ShloMosaic.TcCoe

variable (x0 : Vec Ideal S2x8192x32x128 .f32) (x1 : Vec Ideal S2x8192x32x64 .f32) (x2 : Vec Ideal S2x8192x8192 .f32) (x3 : Vec Ideal S2x8192x64 .f32)

theorem negInf : Ideal.ofBits FTy.f32 4286578688#32 = ⊥ := by
  simp [Ideal.ofBits, Ideal.ieee]

section Batch
variable (b : Fin 2) (h : Fin 32) (q k : Fin 8192)

theorem logit_apply : val_main_v10 (F := Ideal) x0 x1 x2 x3 (ix4 b h q k)
    = ((∑ c : Fin 128, x0 (ix4 b q h c) * x2 (ix3 b k ⟨h.val * 256 + c.val, by omega⟩)) + ∑ c : Fin 64, x3 (ix3 b k c) * x1 (ix4 b q h c))
      * Ideal.div 1 (Ideal.sqrt (Ideal.ofBits FTy.f32 1128267776#32)) := by
  pointwise [val_main_v10, val_main_v9, val_main_v8, val_main_v7, val_main_v6, val_main_v5, val_main_v4, val_main_v3, val_main_cst, val_main_cst_0, val_main_v1, val_main_v0]

/-- For real arguments it is a real number. -/
theorem logit_real (qn kn : Fin 128 → ℝ) (qr kr : Fin 64 → ℝ) (h0 : ∀ c, x0 (ix4 b q h c) = (qn c : EReal)) (h1 : ∀ c, x1 (ix4 b q h c) = (qr c : EReal))
    (h2 : ∀ c : Fin 128, x2 (ix3 b k ⟨h.val * 256 + c.val, by omega⟩) = (kn c : EReal)) (h3 : ∀ c, x3 (ix3 b k c) = (kr c : EReal)) :
    val_main_v10 (F := Ideal) x0 x1 x2 x3 (ix4 b h q k) = ((Cert.Score.dot qn kn qr kr * Cert.Score.scale : ℝ) : EReal) := by
  rw [logit_apply, Cert.Score.scale_eq]
  simp only [h0, h1, h2, h3, ← EReal.coe_mul]
  rw [Cert.Score.sum_coe, Cert.Score.sum_coe, ← EReal.coe_add, ← EReal.coe_mul]
  unfold Cert.Score.dot
  congr 3
  exact Finset.sum_congr rfl fun c _ => mul_comm _ _

theorem chunk_apply : val_main_v12 (F := Ideal) (ix1 k) = BitVec.ofNat 32 (k.val / 64) := by
  pointwise [val_main_v12, val_main_call0_v11, val_main_call0_v13, val_main_call0_v2, val_main_call0_v6, val_main_call0_v10,
    val_main_call0_v3, val_main_call0_v5, val_main_call0_v4, val_main_call0_v8, val_main_call0_v9, val_main_call0_v7, val_main_call0_v12,
    val_main_call0_v1, val_main_call0_v0, val_main_call0_c, val_main_call0_c_0, val_main_c, val_main_v11]
  rw [show (id (constantI S_ 32 64#32) ix0 : BitVec 32) = 64#32 from rfl, if_neg (show ¬ (64#32 : BitVec 32) = 0 by decide),
    if_neg (show ¬ BitVec.msb 64#32 = true by decide)]
  refine Cert.Chunk.floor_select _ .host (n := k.val) (by omega) fun hk => ?_
  have hm : ¬ (BitVec.ofNat 32 k.val).msb = true := by rw [Cert.Chunk.msb_of_lt (by omega)]; decide
  have hz : ¬ BitVec.ofNat 32 k.val = 0 := by
    intro hz
    have := congrArg BitVec.toNat hz
    simp [BitVec.toNat_ofNat] at this
    omega
  exact (if_neg hz).trans (if_neg hm)

theorem masked_apply : val_main_v18 (F := Ideal) x0 x1 x2 x3 (ix4 b h q k)
    = if k.val / 64 ≤ q.val / 64 then val_main_v10 (F := Ideal) x0 x1 x2 x3 (ix4 b h q k) else ⊥ := by
  pointwise [val_main_v18, val_main_call1_v1, val_main_call1_v2, val_main_call1_v0, val_main_v17, val_main_v15, val_main_v16, val_main_v13, val_main_v14, val_main_cst_1]
  rw [chunk_apply, chunk_apply]
  exact (Cert.Chunk.sle_select (by omega) (by omega) _ _).trans (if_congr Iff.rfl rfl negInf)

theorem rowMax (y : FVec Ideal S2x32x8192x8192 .f32) :
    Host.reduce FloatOps.maximumf y (constant S_ .f32 0xFF800000#32) reducesTo_S2x32x8192x8192_S2x32x8192_d3 h_S_ (ix3 b h q)
      = Finset.univ.fold max ⊥ fun k : Fin 8192 => y (ix4 b h q k) := by
  have hr : S2x32x8192x8192.Reduces [3] S2x32x8192 := by decide
  refine (congrFun (hostReduce_maximumf_eq_multiReduction y 0xFF800000#32 _ _ hr (.inl rfl) rfl) _).trans
    ((Ideal.multiReduction_maximumf_single y _ hr _ _ _).trans ?_)
  show Finset.univ.fold max (Ideal.ofBits FTy.f32 4286578688#32) _ = _
  rw [negInf]
  congr 1
  funext k
  refine congrArg y (funext fun a => Fin.ext ?_)
  match a with
  | ⟨0, _⟩ => rfl
  | ⟨1, _⟩ => rfl
  | ⟨2, _⟩ => rfl
  | ⟨3, _⟩ => rfl

theorem max_bot (z : EReal) : FloatOps.maximumf (F := Ideal) (φ := .f32) (FloatOps.ofBits .f32 0xFF800000#32) z = z := by
  show max (Ideal.ofBits FTy.f32 4286578688#32) z = z
  rw [negInf, max_eq_right bot_le]

theorem max_apply : val_main_v21 (F := Ideal) x0 x1 x2 x3 (ix3 b h q)
    = Finset.univ.fold max ⊥ fun k : Fin 8192 => val_main_v18 (F := Ideal) x0 x1 x2 x3 (ix4 b h q k) := by
  rw [val_main_v21_apply, val_main_v20_apply, val_main_cst_3_apply, max_bot]
  unfold val_main_v19 val_main_cst_2
  exact rowMax b h q _

theorem weight_apply : val_main_v25 (F := Ideal) x0 x1 x2 x3 (ix4 b h q k)
    = Ideal.exp (val_main_v18 (F := Ideal) x0 x1 x2 x3 (ix4 b h q k) - val_main_v21 (F := Ideal) x0 x1 x2 x3 (ix3 b h q)) := by
  pointwise [val_main_v25, val_main_v24, val_main_v23, val_main_v22]

theorem sum_apply : val_main_v26 (F := Ideal) x0 x1 x2 x3 (ix3 b h q)
    = ∑ k : Fin 8192, val_main_v25 (F := Ideal) x0 x1 x2 x3 (ix4 b h q k) := by
  unfold val_main_v26
  generalize val_main_v25 (F := Ideal) x0 x1 x2 x3 = y
  pointwise [val_main_cst_4]

theorem share_apply : val_main_v29 (F := Ideal) x0 x1 x2 x3 (ix4 b h q k)
    = Ideal.div (val_main_v25 (F := Ideal) x0 x1 x2 x3 (ix4 b h q k)) (val_main_v26 (F := Ideal) x0 x1 x2 x3 (ix3 b h q)) := by
  pointwise [val_main_v29, val_main_v28, val_main_v27]

end Batch

theorem out_apply (b : Fin 2) (h : Fin 32) (q : Fin 8192) (d : Fin 128) (r : Fin 16384) (e : Fin 4096) (hr : r.val = 8192 * b.val + q.val)
    (he : e.val = 128 * h.val + d.val) : val_main_v33 (F := Ideal) x0 x1 x2 x3 (ix2 r e)
    = ∑ k : Fin 8192, x2 (ix3 b k ⟨h.val * 256 + (128 + d.val), by omega⟩) * val_main_v29 (F := Ideal) x0 x1 x2 x3 (ix4 b h q k) := by
  have h1 : r.val / 8192 = b.val := by omega
  have h2 : r.val % 8192 = q.val := by omega
  have h3 : e.val / 128 = h.val := by omega
  have h4 : e.val % 128 = d.val := by omega
  unfold val_main_v33 val_main_v32 val_main_v31 val_main_v30
  generalize val_main_v29 (F := Ideal) x0 x1 x2 x3 = y
  pointwise [val_main_v2, val_main_v0]
  simp only [h1, h2, h3, h4]

end Cert.ReferenceIdeal.Run
end
-- ==== Proof.Finite.lean ====
module

public import proofs.«01_k».proof.Defs
public import proofs.«01_k».proof.Proof.Gen.Pre_finite
public import Idealize.ShloMosaic.Lib.Pointwise

/-! The precondition, element by element: the queries and the keys are real numbers. -/

@[expose] public section

noncomputable section

namespace Cert.Finite

open Idealize.ShloMosaic Cert.Pre_finite

variable (a0 : FVec Ideal S2x8192x32x128 .f32) (a1 : FVec Ideal S2x8192x32x64 .f32) (a2 : FVec Ideal S2x8192x8192 .f32) (a3 : FVec Ideal S2x8192x64 .f32)

/-- An extended real of absolute value below infinity is a real number. -/
theorem real_of_bit {x : EReal} (h : BitVec.ofBool (decide (max x (-x) < Ideal.ofBits FTy.f32 2139095040#32)) = 1#1) : ∃ r : ℝ, x = (r : EReal) := by
  have top : Ideal.ofBits FTy.f32 2139095040#32 = (⊤ : EReal) := by simp [Ideal.ofBits, Ideal.ieee]
  rw [top] at h
  have h' : max x (-x) < ⊤ := by
    by_contra hn
    rw [decide_eq_false hn] at h
    exact absurd h (by decide)
  obtain ⟨h1, h2⟩ := max_lt_iff.mp h'
  induction x with
  | bot => exact absurd h2 (by simp)
  | top => exact absurd h1 (by simp)
  | coe r => exact ⟨r, rfl⟩

variable (b : Fin 2) (s : Fin 8192) (g : Fin 32)

theorem nope (h : (fn a0 a1 a2 a3).1 = fun _ => 1#1) (d : Fin 128) : ∃ r : ℝ, a0 (ix4 b s g d) = (r : EReal) := by
  refine real_of_bit ?_
  have h' : cmpf .olt (Host.absf a0) (broadcastInDim S2x8192x32x128 ![] Facts.bcast_S_S2x8192x32x128 (constant S_ .f32 0x7F800000#32)) (ix4 b s g d) = 1#1 := congrFun h _
  revert h'
  pointwise
  exact id

theorem rope (h : (fn a0 a1 a2 a3).2.1 = fun _ => 1#1) (d : Fin 64) : ∃ r : ℝ, a1 (ix4 b s g d) = (r : EReal) := by
  refine real_of_bit ?_
  have h' : cmpf .olt (Host.absf a1) (broadcastInDim S2x8192x32x64 ![] Facts.bcast_S_S2x8192x32x64 (constant S_ .f32 0x7F800000#32)) (ix4 b s g d) = 1#1 := congrFun h _
  revert h'
  pointwise
  exact id

theorem key (h : (fn a0 a1 a2 a3).2.2.1 = fun _ => 1#1) (d : Fin 128) (e : Fin 8192) (he : e.val = g.val * 256 + d.val) :
    ∃ r : ℝ, a2 (ix3 b s e) = (r : EReal) := by
  refine real_of_bit ?_
  have h' : cmpf .olt (Host.absf (extractStridedSlice S2x8192x32x128 ![0, 0, 0, 0]
      (shapeCast S2x8192x32x256 a2 Facts.shapeCasts_S2x8192x8192_S2x8192x32x256) Facts.slices_S2x8192x32x256_S2x8192x32x128_0_0_0_0))
      (broadcastInDim S2x8192x32x128 ![] Facts.bcast_S_S2x8192x32x128 (constant S_ .f32 0x7F800000#32)) (ix4 b s g d) = 1#1 := congrFun h _
  revert h'
  pointwise
  simp only [← he]
  exact id

theorem keyRope (h : (fn a0 a1 a2 a3).2.2.2 = fun _ => 1#1) (d : Fin 64) : ∃ r : ℝ, a3 (ix3 b s d) = (r : EReal) := by
  refine real_of_bit ?_
  have h' : cmpf .olt (Host.absf a3) (broadcastInDim S2x8192x64 ![] Facts.bcast_S_S2x8192x64 (constant S_ .f32 0x7F800000#32)) (ix3 b s d) = 1#1 := congrFun h _
  revert h'
  pointwise
  exact id

end Cert.Finite
end
-- ==== Proof.Value.lean ====
module

public import proofs.«01_k».proof.Proof.Lane
public import proofs.«01_k».proof.Proof.Host
public import proofs.«01_k».proof.Proof.Ref
public import proofs.«01_k».proof.Proof.Finite
public import Idealize.ShloMosaic.Lib.Pipeline.Value
public import Idealize.ShloMosaic.Lib.Pipeline.Covers

/-! What the run leaves in the result array is the reference's value of the same arguments. -/

@[expose] public section

set_option maxRecDepth 16384

noncomputable section

namespace Cert.KernelIdeal.Run

open Idealize.ShloMosaic Idealize.ShloMosaic.TcCoe Idealize.SL.Sem Cert.KernelIdeal Cert.KernelIdeal.Gen Cert.Online
open Idealize.ShloMosaic.Pipeline (Dat)

variable (m : (ℓ : Loc nD τ sig) → Buf (Elt Ideal) ℓ) (c : Dev nD)

abbrev A0 : Vec Ideal S2x8192x32x128 .f32 := m ((c : Thread nD τ).loc main_arg0)
abbrev A1 : Vec Ideal S2x8192x32x64 .f32 := m ((c : Thread nD τ).loc main_arg1)
abbrev A2 : Vec Ideal S2x8192x8192 .f32 := m ((c : Thread nD τ).loc main_arg2)
abbrev A3 : Vec Ideal S2x8192x64 .f32 := m ((c : Thread nD τ).loc main_arg3)

/-- The reference's value of the kernel's arguments. -/
abbrev target : Vec Ideal S16384x4096 .bf16 := Cert.ReferenceIdeal.Read.val_main_v33 (F := Ideal) (A0 m c) (A1 m c) (A2 m c) (A3 m c)

section Point

variable (t : Fin cfg0.N) (b : Fin 2) (g : Fin 32) (n : Fin 4) (hb : (grid0.coords t 0).val = b.val) (hg : (grid0.coords t 1).val = g.val)
  (hn : (grid0.coords t 2).val = n.val) (j : Fin 2048) (d : Fin 128)
include hb hg hn

/-- The score of a key against a query, for real arguments. -/
theorem raw_eq (k : Fin 8192) (q : Fin 8192) (hq : q.val = 2048 * n.val + j.val) (qn kn : Fin 128 → ℝ) (qr kr : Fin 64 → ℝ)
    (h0 : ∀ e, A0 m c (ix4 b q g e) = (qn e : EReal)) (h1 : ∀ e, A1 m c (ix4 b q g e) = (qr e : EReal))
    (h2 : ∀ e : Fin 128, A2 m c (ix3 b k ⟨g.val * 256 + e.val, by omega⟩) = (kn e : EReal)) (h3 : ∀ e, A3 m c (ix3 b k e) = (kr e : EReal)) :
    raw (iblk m c 0 t) (iblk m c 1 t) (iblk m c 2 t) j k
      = ((Cert.Score.dot qn kn qr kr * Cert.Score.scale * (Real.log 2)⁻¹ : ℝ) : EReal) := by
  have hs : hostScale = ((Cert.Score.scale * (Real.log 2)⁻¹ : ℝ) : EReal) := Cert.Score.hostScale_eq
  rw [mul_assoc]
  unfold raw
  refine Cert.Score.dot_eq _ _ qn kn qr kr _ ?_ ?_ ?_ ?_ ?_
  · intro e
    unfold keyAt
    rw [dif_pos e.isLt]
    refine (blk1 m c t ⟨8192 * b.val + k.val, by omega⟩ k _ ⟨g.val * 256 + e.val, by omega⟩ ?_ ?_).trans
      ((kv_apply m c b k _ rfl _).trans (h2 e))
    · show 8192 * b.val + k.val = _; rw [hb]; omega
    · show g.val * 256 + e.val = _; rw [hg]; show _ = 2 * g.val * 128 + e.val; omega
  · intro e
    refine (blk0 m c t ⟨8192 * b.val + q.val, by omega⟩ j _ ⟨256 * g.val + e.val, by omega⟩ ?_ ?_).trans
      ((q_nope m c b q _ rfl g ⟨e.val, by omega⟩ _ rfl e.isLt).trans ?_)
    · show 8192 * b.val + q.val = _; rw [hb, hn]; omega
    · show 256 * g.val + e.val = _; rw [hg]; show _ = g.val * 256 + e.val; omega
    · rw [hs]; exact congrArg (· * _) (h0 e)
  · intro e
    unfold keyAt
    rw [dif_neg (by show ¬ 128 + e.val < 128; omega)]
    refine (blk2 m c t ⟨8192 * b.val + k.val, by omega⟩ k _ ?_).trans
      ((kr_lo m c b k _ rfl _ (by show 128 + e.val - 128 < 64; omega)).trans ?_)
    · show 8192 * b.val + k.val = _; rw [hb]; omega
    · refine Eq.trans (congrArg (fun z => A3 m c (ix3 b k z)) (Fin.ext ?_)) (h3 e)
      show 128 + e.val - 128 = e.val; omega
  · intro e
    refine (blk0 m c t ⟨8192 * b.val + q.val, by omega⟩ j _ ⟨256 * g.val + (128 + e.val), by omega⟩ ?_ ?_).trans
      ((q_rope m c b q _ rfl g ⟨128 + e.val, by omega⟩ _ rfl (by show ¬ 128 + e.val < 128; omega) (by show 128 + e.val - 128 < 64; omega)).trans ?_)
    · show 8192 * b.val + q.val = _; rw [hb, hn]; omega
    · show 256 * g.val + (128 + e.val) = _; rw [hg]; show _ = g.val * 256 + (128 + e.val); omega
    · rw [hs]
      refine congrArg (· * _) (Eq.trans (congrArg (fun z => A1 m c (ix4 b q g z)) (Fin.ext ?_)) (h1 e))
      show 128 + e.val - 128 = e.val; omega
  · intro e he
    unfold keyAt
    rw [dif_neg (by omega)]
    refine (blk2 m c t ⟨8192 * b.val + k.val, by omega⟩ k _ ?_).trans (kr_hi m c b k _ rfl _ (by show ¬ e.val - 128 < 64; omega))
    show 8192 * b.val + k.val = _; rw [hb]; omega

/-- The output block of a point, at an index. -/
theorem point_value (hp0 : ∀ q e, ∃ r : ℝ, A0 m c (ix4 b q g e) = (r : EReal)) (hp1 : ∀ q e, ∃ r : ℝ, A1 m c (ix4 b q g e) = (r : EReal))
    (hp2 : ∀ (k : Fin 8192) (e : Fin 128), ∃ r : ℝ, A2 m c (ix3 b k ⟨g.val * 256 + e.val, by omega⟩) = (r : EReal))
    (hp3 : ∀ k e, ∃ r : ℝ, A3 m c (ix3 b k e) = (r : EReal)) (r : Fin 16384) (e : Fin 4096)
    (hr : r.val = (4 * b.val + n.val) * 2048 + j.val) (he : e.val = g.val * 128 + d.val) :
    outAt m c t (ix2 j d) = target m c (ix2 r e) := by
  obtain ⟨q, hq⟩ : ∃ q : Fin 8192, q.val = 2048 * n.val + j.val := ⟨⟨2048 * n.val + j.val, by omega⟩, rfl⟩
  choose qn hqn using hp0 q
  choose qr hqr using hp1 q
  choose kn hkn using hp2
  choose kr hkr using hp3
  have er := fun k => raw_eq m c t b g n hb hg hn j k q hq qn (kn k) qr (kr k) hqn hqr (hkn k) (hkr k)
  obtain ⟨m0, l, a, hgood, ho⟩ := outV_good (grid0.coords t) (iblk m c 0 t) (iblk m c 1 t) (iblk m c 2 t) (iblk m c 3 t) j d
    (fun k => by rw [er k]; exact EReal.coe_ne_bot _) (fun k => by rw [er k]; exact EReal.coe_ne_top _)
  refine ho.trans ?_
  refine (softmax_eq (fun k : Fin 8192 => k.val / 64 ≤ q.val / 64) (fun k => Cert.Score.dot qn (kn k) qr (kr k) * Cert.Score.scale)
    (fun k => A2 m c (ix3 b k ⟨g.val * 256 + (128 + d.val), by omega⟩)) q le_rfl ?_ ?_
    (x := fun k => Cert.ReferenceIdeal.Read.val_main_v18 (F := Ideal) (A0 m c) (A1 m c) (A2 m c) (A3 m c) (ix4 b g q k)) ?_ hgood
    (Cert.ReferenceIdeal.Run.max_apply (A0 m c) (A1 m c) (A2 m c) (A3 m c) b g q)
    (L := Cert.ReferenceIdeal.Read.val_main_v26 (F := Ideal) (A0 m c) (A1 m c) (A2 m c) (A3 m c) (ix3 b g q)) ?_).trans ?_
  · intro k
    unfold sc
    rw [dif_pos k.isLt, er k, hq]
    show (if k.val / 64 ≤ (2048 * (grid0.coords t 2).val + j.val) / 64 then _ else _) = _
    rw [hn]
  · intro k
    unfold vl
    rw [dif_pos k.isLt]
    refine (blk3 m c t ⟨8192 * b.val + k.val, by omega⟩ k _ ⟨g.val * 256 + (128 + d.val), by omega⟩ ?_ ?_).trans (kv_apply m c b k _ rfl _)
    · show 8192 * b.val + k.val = _; rw [hb]; omega
    · show g.val * 256 + (128 + d.val) = _; rw [hg]; omega
  · intro k
    rw [Cert.ReferenceIdeal.Run.masked_apply,
      Cert.ReferenceIdeal.Run.logit_real _ _ _ _ b g q k qn (kn k) qr (kr k) hqn hqr (hkn k) (hkr k)]
  · rw [Cert.ReferenceIdeal.Run.sum_apply]
    exact Finset.sum_congr rfl fun k _ => Cert.ReferenceIdeal.Run.weight_apply _ _ _ _ b g q k
  · refine Eq.trans ?_ (Cert.ReferenceIdeal.Run.out_apply _ _ _ _ b g q d r e (by omega) (by omega)).symm
    refine Finset.sum_congr rfl fun k _ => ?_
    rw [Cert.ReferenceIdeal.Run.share_apply, Cert.ReferenceIdeal.Run.weight_apply]

end Point

/-- Every row and column of the result lies in the block of a point that writes it back. -/
theorem covered (r : Fin 16384) (e : Fin 4096) : ∃ t : Fin cfg0.N, (cfg0.win 4).flush t = true
    ∧ 4 * (grid0.coords t 0).val + (grid0.coords t 2).val = r.val / 2048 ∧ (grid0.coords t 1).val = e.val / 128 := by
  obtain ⟨t₀, h₀⟩ := Pipeline.Grid.coords_surjective grid0 (fun a => match a with
    | ⟨0, _⟩ => ⟨r.val / 8192, by show _ < 2; omega⟩
    | ⟨1, _⟩ => ⟨e.val / 128, by show _ < 32; omega⟩
    | ⟨2, _⟩ => ⟨r.val % 8192 / 2048, by show _ < 4; omega⟩)
  obtain ⟨t, -, hf, hx⟩ := Pipeline.Window.exists_flush_same_index win0_4 rfl t₀
  obtain ⟨a0, a1⟩ := at4 (grid0.coords t)
  obtain ⟨b0, b1⟩ := at4 (grid0.coords t₀)
  have x0 : cc0_transform_4 (grid0.coords t) 0 = cc0_transform_4 (grid0.coords t₀) 0 := congrFun hx 0
  have x1 : cc0_transform_4 (grid0.coords t) 1 = cc0_transform_4 (grid0.coords t₀) 1 := congrFun hx 1
  have y0 : (grid0.coords t₀ 0).val = r.val / 8192 := congrArg Fin.val (congrFun h₀ 0)
  have y1 : (grid0.coords t₀ 1).val = e.val / 128 := congrArg Fin.val (congrFun h₀ 1)
  have y2 : (grid0.coords t₀ 2).val = r.val % 8192 / 2048 := congrArg Fin.val (congrFun h₀ 2)
  exact ⟨t, hf, by omega, by omega⟩

/-- The result array after the run. -/
theorem final_value (hp0 : ∀ b g q e, ∃ r : ℝ, A0 m c (ix4 b q g e) = (r : EReal)) (hp1 : ∀ b g q e, ∃ r : ℝ, A1 m c (ix4 b q g e) = (r : EReal))
    (hp2 : ∀ (b : Fin 2) (g : Fin 32) (k : Fin 8192) (e : Fin 128), ∃ r : ℝ, A2 m c (ix3 b k ⟨g.val * 256 + e.val, by omega⟩) = (r : EReal))
    (hp3 : ∀ b k e, ∃ r : ℝ, A3 m c (ix3 b k e) = (r : EReal)) : (dats m 0 c).arrAt 4 cfg0.N = target m c := by
  refine (dats m 0 c).arrAt_eq_of_cover 4 (target m c) ?_ ?_
  · intro t _
    funext y
    obtain ⟨j, d, rfl⟩ : ∃ (j : Fin 2048) (d : Fin 128), y = ix2 j d := ⟨y 0, y 1, by funext a; match a with | ⟨0, _⟩ => rfl | ⟨1, _⟩ => rfl⟩
    have h0 : (grid0.coords t 0).val < 2 := (grid0.coords t 0).isLt
    have h1 : (grid0.coords t 1).val < 32 := (grid0.coords t 1).isLt
    have h2 : (grid0.coords t 2).val < 4 := (grid0.coords t 2).isLt
    show outAt m c t (ix2 j d) = target m c (((cfg0.win 4).blk t).view.emb (ix2 j d))
    rw [emb4 t ⟨(4 * (grid0.coords t 0).val + (grid0.coords t 2).val) * 2048 + j.val, by omega⟩ j d
      ⟨(grid0.coords t 1).val * 128 + d.val, by omega⟩ rfl rfl]
    exact point_value m c t ⟨_, h0⟩ ⟨_, h1⟩ ⟨_, h2⟩ rfl rfl rfl j d (hp0 _ _) (hp1 _ _) (hp2 _ _) (hp3 _) _ _ rfl rfl
  · intro y
    obtain ⟨r, e, rfl⟩ : ∃ (r : Fin 16384) (e : Fin 4096), y = ix2 r e := ⟨y 0, y 1, by funext a; match a with | ⟨0, _⟩ => rfl | ⟨1, _⟩ => rfl⟩
    obtain ⟨t, hf, e0, e1⟩ := covered r e
    refine ⟨t, hf, ?_⟩
    rw [← emb4 t r ⟨r.val % 2048, by omega⟩ ⟨e.val % 128, by omega⟩ e (by rw [e0]; show r.val = r.val / 2048 * 2048 + r.val % 2048; omega)
      (by rw [e1]; show e.val = e.val / 128 * 128 + e.val % 128; omega)]
    exact View.emb_mem_set _ _

/-- The run leaves the reference's value in the result array and keeps the arguments. -/
theorem value_run (ρ : Dev nD → PrngReg)
    (hp0 : ∀ c b g q e, ∃ r : ℝ, A0 m c (ix4 b q g e) = (r : EReal)) (hp1 : ∀ c b g q e, ∃ r : ℝ, A1 m c (ix4 b q g e) = (r : EReal))
    (hp2 : ∀ c (b : Fin 2) (g : Fin 32) (k : Fin 8192) (e : Fin 128), ∃ r : ℝ, A2 m c (ix3 b k ⟨g.val * 256 + e.val, by omega⟩) = (r : EReal))
    (hp3 : ∀ c b k e, ∃ r : ℝ, A3 m c (ix3 b k e) = (r : EReal)) :
    θ_run (defs (F := Ideal)) (onTc (τ := τ) (main (F := Ideal))) ⟨m, fun _ => 0, ρ⟩ (fun r => ∀ c : Dev nD,
      r.2.mem ((c.tc : Thread nD τ).loc main_v16) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono
    (fun _ h c => ⟨((h.1.1 c).1 4).trans (final_value m c (hp0 c) (hp1 c) (hp2 c) (hp3 c)), h.2.1 c⟩)
    (θ_run_and (main_run m ρ) (quiet m ρ))

end Cert.KernelIdeal.Run
end
-- ==== Proof.lean ====
module

public import proofs.«01_k».proof.Proof.UpSame
public import proofs.«01_k».proof.Proof.Down
public import proofs.«01_k».proof.Defs
public import proofs.«01_k».proof.Proof.Gen.Kernel
public import proofs.«01_k».proof.Proof.Gen.KernelIdeal
public import proofs.«01_k».proof.Proof.Whole
public import proofs.«01_k».proof.Proof.Twin
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal
public import proofs.«01_k».proof.Proof.Gen.Kernel2Ideal.Value
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Value
public import proofs.«01_k».proof.Proof.Gen.Kernel3.Frame
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import Idealize.ShloMosaic.Adequacy
public import Idealize.ShloMosaic.Init

public import proofs.«01_k».proof.Proof.Value

@[expose] public section

noncomputable section

namespace Cert.Proof

open Idealize.ShloMosaic Idealize.SL.Sem

/-- The kernel keeps its arguments and leaves every counter at zero: it is the idealised text. -/
theorem quiet_kernel : Cert.quiescent_Kernel (hKernel := Cert.Kernel.Gen.facts) := fun m g _ => by
  rw [Cert.Twin.defs_eq, Cert.Twin.main_eq]
  exact Cert.KernelIdeal.Run.quiet (F := Bits) m g

/-- So does the reference, which has no counter. -/
theorem quiet_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- On queries and keys that are real numbers the two leave the same result. -/
theorem same_value : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m g m' g' hp ha => by
  refine ⟨Cert.KernelIdeal.Run.target m, Cert.KernelIdeal.Run.value_run m g ?_ ?_ ?_ ?_, ?_⟩
  · intro c b h q e; exact Cert.Finite.nope _ _ _ _ b q h (hp c).1 e
  · intro c b h q e; exact Cert.Finite.rope _ _ _ _ b q h (hp c).2.1 e
  · intro c b h k e; exact Cert.Finite.key _ _ _ _ b k h (hp c).2.2.1 e _ rfl
  · intro c b k e; exact Cert.Finite.keyRope _ _ _ _ b k (hp c).2.2.2 e
  · refine (θ_run Cert.ReferenceIdeal.defs _ _).mono (fun r h c => ⟨(h c).1.trans ?_, (h c).2⟩) (Cert.ReferenceIdeal.Value.run m' g')
    obtain ⟨a0, a1, a2, a3⟩ := ha c
    rw [Cert.ReferenceIdeal.Read.val_main_v33_eq, a0, a1, a2, a3]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts,
  quiet_kernel,
  fun m g _ => Cert.KernelIdeal.Run.quiet m g,
  fun m g _ => Cert.KernelIdeal.Run.quiet m g,
  fun m g _ => quiet_reference m g,
  fun m g _ => quiet_reference m g,
  fun m g _ => Cert.Kernel2.Gen.frame m g,
  fun m g _ => Cert.Kernel2Ideal.Gen.frame m g,
  fun m g _ => (θ_run Cert.Reference2Ideal.defs _ _).mono (fun r h => ⟨fun c => (h c).2.2, sem_eq_zero_of_no_sems (by decide) r.2⟩)
    (Cert.Reference2Ideal.Value.run m g),
  fun m g _ => Cert.Kernel3.Gen.frame m g,
  fun m g _ => Cert.Kernel3Ideal.Gen.frame m g,
  fun m g _ => (θ_run Cert.Reference3Ideal.defs _ _).mono (fun r h => ⟨fun c => (h c).2, sem_eq_zero_of_no_sems (by decide) r.2⟩)
    (Cert.Reference3Ideal.Value.run m g),
  trivial,
  same_value,
  trivial,
  Cert.Kernel2Ideal.Up.same_value,
  trivial,
  Cert.Kernel3Ideal.Down.same_value⟩

end Cert.Proof

end
